-- ==== Defs.lean ====
def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7)) (m ((c.tc : Thread Cert.Kernel4Ideal.nD Cert.Kernel4Ideal.τ).loc Cert.Kernel4Ideal.main_arg8)) (m ((c.tc : Thread Cert.Kernel4Ideal.nD Cert.Kernel4Ideal.τ).loc Cert.Kernel4Ideal.main_arg9)) (m ((c.tc : Thread Cert.Kernel4Ideal.nD Cert.Kernel4Ideal.τ).loc Cert.Kernel4Ideal.main_arg10)) (m ((c.tc : Thread Cert.Kernel4Ideal.nD Cert.Kernel4Ideal.τ).loc Cert.Kernel4Ideal.main_arg11))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7)) (m ((c.tc : Thread Cert.Reference4Ideal.nD Cert.Reference4Ideal.τ).loc Cert.Reference4Ideal.main_arg8)) (m ((c.tc : Thread Cert.Reference4Ideal.nD Cert.Reference4Ideal.τ).loc Cert.Reference4Ideal.main_arg9)) (m ((c.tc : Thread Cert.Reference4Ideal.nD Cert.Reference4Ideal.τ).loc Cert.Reference4Ideal.main_arg10)) (m ((c.tc : Thread Cert.Reference4Ideal.nD Cert.Reference4Ideal.τ).loc Cert.Reference4Ideal.main_arg11))) = (fun _ => 1#1)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10)
      ∧ r.2.mem ((c.tc : Thread Cert.Kernel4.nD Cert.Kernel4.τ).loc Cert.Kernel4.main_arg11) = m ((c.tc : Thread Cert.Kernel4.nD Cert.Kernel4.τ).loc Cert.Kernel4.main_arg11))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
      ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10)
      ∧ r.2.mem ((c.tc : Thread Cert.Reference4Ideal.nD Cert.Reference4Ideal.τ).loc Cert.Reference4Ideal.main_arg11) = m ((c.tc : Thread Cert.Reference4Ideal.nD Cert.Reference4Ideal.τ).loc Cert.Reference4Ideal.main_arg11))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)) (v5 : (c : Dev Cert.Kernel3Ideal.nD) → Buf (Elt Ideal) ((c.tc : Thread Cert.Kernel3Ideal.nD Cert.Kernel3Ideal.τ).loc Cert.Kernel3Ideal.main_v14_5)) (v6 : (c : Dev Cert.Kernel3Ideal.nD) → Buf (Elt Ideal) ((c.tc : Thread Cert.Kernel3Ideal.nD Cert.Kernel3Ideal.τ).loc Cert.Kernel3Ideal.main_v14_6)) (v7 : (c : Dev Cert.Kernel3Ideal.nD) → Buf (Elt Ideal) ((c.tc : Thread Cert.Kernel3Ideal.nD Cert.Kernel3Ideal.τ).loc Cert.Kernel3Ideal.main_v14_7)) (v8 : (c : Dev Cert.Kernel3Ideal.nD) → Buf (Elt Ideal) ((c.tc : Thread Cert.Kernel3Ideal.nD Cert.Kernel3Ideal.τ).loc Cert.Kernel3Ideal.main_v14_8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_v14_5) = v5 c
          ∧ r.2.mem ((c.tc : Thread Cert.Kernel3Ideal.nD Cert.Kernel3Ideal.τ).loc Cert.Kernel3Ideal.main_v14_6) = v6 c
          ∧ r.2.mem ((c.tc : Thread Cert.Kernel3Ideal.nD Cert.Kernel3Ideal.τ).loc Cert.Kernel3Ideal.main_v14_7) = v7 c
          ∧ r.2.mem ((c.tc : Thread Cert.Kernel3Ideal.nD Cert.Kernel3Ideal.τ).loc Cert.Kernel3Ideal.main_v14_8) = v8 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_v26) = v2 c
          ∧ r.2.mem ((c.tc : Thread Cert.Reference3Ideal.nD Cert.Reference3Ideal.τ).loc Cert.Reference3Ideal.main_v27) = v3 c
          ∧ r.2.mem ((c.tc : Thread Cert.Reference3Ideal.nD Cert.Reference3Ideal.τ).loc Cert.Reference3Ideal.main_v28) = v4 c
          ∧ r.2.mem ((c.tc : Thread Cert.Reference3Ideal.nD Cert.Reference3Ideal.τ).loc Cert.Reference3Ideal.main_v29) = v5 c
          ∧ r.2.mem ((c.tc : Thread Cert.Reference3Ideal.nD Cert.Reference3Ideal.τ).loc Cert.Reference3Ideal.main_v30) = v6 c
          ∧ r.2.mem ((c.tc : Thread Cert.Reference3Ideal.nD Cert.Reference3Ideal.τ).loc Cert.Reference3Ideal.main_v31) = v7 c
          ∧ r.2.mem ((c.tc : Thread Cert.Reference3Ideal.nD Cert.Reference3Ideal.τ).loc Cert.Reference3Ideal.main_v32) = v8 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)
      ∧ m' ((c.tc : Thread Cert.Reference4Ideal.nD Cert.Reference4Ideal.τ).loc Cert.Reference4Ideal.main_arg11) = m ((c.tc : Thread Cert.Kernel4Ideal.nD Cert.Kernel4Ideal.τ).loc Cert.Kernel4Ideal.main_arg11)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10)
          ∧ r.2.mem ((c.tc : Thread Cert.Kernel4Ideal.nD Cert.Kernel4Ideal.τ).loc Cert.Kernel4Ideal.main_arg11) = m ((c.tc : Thread Cert.Kernel4Ideal.nD Cert.Kernel4Ideal.τ).loc Cert.Kernel4Ideal.main_arg11))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v117) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10)
          ∧ r.2.mem ((c.tc : Thread Cert.Reference4Ideal.nD Cert.Reference4Ideal.τ).loc Cert.Reference4Ideal.main_arg11) = m' ((c.tc : Thread Cert.Reference4Ideal.nD Cert.Reference4Ideal.τ).loc Cert.Reference4Ideal.main_arg11))

def Claim : Prop :=
  ∃ (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite4 : Cert.Pre_finite4.Facts),
    quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite4.lean ====
abbrev S32768x1024 : Shape := ⟨2, ![32768, 1024]⟩
abbrev S32768x512 : Shape := ⟨2, ![32768, 512]⟩
abbrev S32768x3072 : Shape := ⟨2, ![32768, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S_ : Shape := ⟨0, ![]⟩

class Facts : Prop where
  bitsLt_bf16_f32 : FTy.bits .bf16 < FTy.bits .f32
  bcast_S_S32768x512 : S_.BroadcastsInDim S32768x512 (![] : Fin 0 → Fin S32768x512.rank)

variable [Facts]

def fn {F : FTy → Type} [FloatOps F] (main_arg0 : FVec F S32768x1024 .f32) (main_arg1 : FVec F S32768x512 .bf16) (main_arg2 : FVec F S32768x512 .bf16) (main_arg3 : FVec F S32768x512 .bf16) (main_arg4 : FVec F S32768x3072 .bf16) (main_arg5 : FVec F S4x128x128 .f32) (main_arg6 : FVec F S512 .f32) (main_arg7 : FVec F S512x1024 .f32) (main_arg8 : FVec F S512x1024 .f32) (main_arg9 : FVec F S512x1024 .f32) (main_arg10 : FVec F S1024x1024 .f32) (main_arg11 : FVec F S1024 .f32) : IVec S32768x512 1 :=
  let main_v0 : FVec F S32768x512 .f32 := (extf .f32 · bitsLt_bf16_f32) main_arg3
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  main_v3
-- ==== Kernel2.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x2816 : Shape := ⟨2, ![256, 2816]⟩

abbrev nBuf : Space → Nat
  | .hbm => 12
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S32768x1024 : Shape := ⟨2, ![32768, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2816 : Shape := ⟨2, ![32768, 2816]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S_, .f32⟩
  | .hbm, ⟨26, _⟩ => ⟨S32768x2816, .f32⟩
  | .hbm, ⟨27, _⟩ => ⟨S32768x2816, .f32⟩
  | .hbm, ⟨28, _⟩ => ⟨S_, .f32⟩
  | .hbm, ⟨29, _⟩ => ⟨S32768x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S32768x1024, .f32⟩
  | .hbm, ⟨36, _⟩ => ⟨S_, .f32⟩
  | .hbm, ⟨37, _⟩ => ⟨S32768, .f32⟩
  | .hbm, ⟨38, _⟩ => ⟨S32768x1, .f32⟩
  | .hbm, ⟨39, _⟩ => ⟨S_, .f32⟩
  | .hbm, ⟨40, _⟩ => ⟨S32768x1, .f32⟩
  | .hbm, ⟨41, _⟩ => ⟨S32768x1, .f32⟩
  | .hbm, ⟨42, _⟩ => ⟨S_, .f32⟩
  | .hbm, ⟨43, _⟩ => ⟨S32768x1, .f32⟩
  | .hbm, ⟨44, _⟩ => ⟨S32768x1, .f32⟩
  | .hbm, ⟨45, _⟩ => ⟨S32768x1, .f32⟩
  | .hbm, ⟨46, _⟩ => ⟨S32768x1024, .f32⟩
  | .hbm, ⟨47, _⟩ => ⟨S32768x1024, .f32⟩
  | .hbm, ⟨48, _⟩ => ⟨S1x1024, .f32⟩
  | .hbm, ⟨49, _⟩ => ⟨S32768x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_2 : Ref sig .tc := ⟨.hbm, 36, rfl⟩
abbrev main_v19 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x6672 : Shape := ⟨2, ![1024, 6672]⟩
abbrev S1024x256 : Shape := ⟨2, ![1024, 256]⟩
abbrev S1024x512 : Shape := ⟨2, ![1024, 512]⟩
abbrev S1024x16 : Shape := ⟨2, ![1024, 16]⟩
abbrev S1024x3072 : Shape := ⟨2, ![1024, 3072]⟩
abbrev S_ : Shape := ⟨0, ![]⟩
abbrev S1024x128 : Shape := ⟨2, ![1024, 128]⟩
abbrev S1024x6784 : Shape := ⟨2, ![1024, 6784]⟩
abbrev S1x1024 : Shape := ⟨2, ![1, 1024]⟩
abbrev S32768x512 : Shape := ⟨2, ![32768, 512]⟩
abbrev S32768x3072 : Shape := ⟨2, ![32768, 3072]⟩
abbrev S32768x128 : Shape := ⟨2, ![32768, 128]⟩
abbrev S512x1024 : Shape := ⟨2, ![512, 1024]⟩
abbrev S512x512 : Shape := ⟨2, ![512, 512]⟩
abbrev S512x3072 : Shape := ⟨2, ![512, 3072]⟩
abbrev S512x128 : Shape := ⟨2, ![512, 128]⟩
abbrev S512 : Shape := ⟨1, ![512]⟩
abbrev S512x1 : Shape := ⟨2, ![512, 1]⟩

abbrev nBuf : Space → Nat
  | .hbm => 28
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6672, .f32⟩
  | .hbm, ⟨3, _⟩ => ⟨S1024x256, .f32⟩
  | .hbm, ⟨4, _⟩ => ⟨S1024x256, .f32⟩
  | .hbm, ⟨5, _⟩ => ⟨S1024x512, .f32⟩
  | .hbm, ⟨6, _⟩ => ⟨S1024x16, .f32⟩
  | .hbm, ⟨7, _⟩ => ⟨S1024x512, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x3072, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x6784, .f32⟩
  | .hbm, ⟨17, _⟩ => ⟨S1024x6784, .bf16⟩
  | .hbm, ⟨18, _⟩ => ⟨S1x1024, .f32⟩
  | .hbm, ⟨19, _⟩ => ⟨S32768x512, .bf16⟩
  | .hbm, ⟨20, _⟩ => ⟨S32768x512, .bf16⟩
  | .hbm, ⟨21, _⟩ => ⟨S32768x512, .bf16⟩
  | .hbm, ⟨22, _⟩ => ⟨S32768x512, .bf16⟩
  | .hbm, ⟨23, _⟩ => ⟨S32768x512, .bf16⟩
  | .hbm, ⟨24, _⟩ => ⟨S32768x512, .bf16⟩
  | .hbm, ⟨25, _⟩ => ⟨S32768x512, .bf16⟩
  | .hbm, ⟨26, _⟩ => ⟨S32768x3072, .bf16⟩
  | .hbm, ⟨27, _⟩ => ⟨S32768x128, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x6784, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x3072, .bf16⟩
  | .local _ .vmem, ⟨19, _⟩ => ⟨S512x3072, .bf16⟩
  | .local _ .vmem, ⟨20, _⟩ => ⟨S512x128, .bf16⟩
  | .local _ .vmem, ⟨21, _⟩ => ⟨S512x128, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_c : Ref sig .tc := ⟨.hbm, 13, rfl⟩
abbrev main_call0_v0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14_0 : Ref sig .tc := ⟨.hbm, 19, rfl⟩
abbrev main_v14_1 : Ref sig .tc := ⟨.hbm, 20, rfl⟩
abbrev main_v14_2 : Ref sig .tc := ⟨.hbm, 21, rfl⟩
abbrev main_v14_3 : Ref sig .tc := ⟨.hbm, 22, rfl⟩
abbrev main_v14_4 : Ref sig .tc := ⟨.hbm, 23, rfl⟩
abbrev main_v14_5 : Ref sig .tc := ⟨.hbm, 24, rfl⟩
abbrev main_v14_6 : Ref sig .tc := ⟨.hbm, 25, rfl⟩
abbrev main_v14_7 : Ref sig .tc := ⟨.hbm, 26, rfl⟩
abbrev main_v14_8 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x6784 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x3072 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S32768x1024 : Shape := ⟨2, ![32768, 1024]⟩
abbrev S1024 : Shape := ⟨1, ![1024]⟩
abbrev S1024x6672 : Shape := ⟨2, ![1024, 6672]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x6672 : Shape := ⟨2, ![32768, 6672]⟩
abbrev S32768x512 : Shape := ⟨2, ![32768, 512]⟩
abbrev S32768x16 : Shape := ⟨2, ![32768, 16]⟩
abbrev S32768x3072 : Shape := ⟨2, ![32768, 3072]⟩
abbrev S32768x128 : Shape := ⟨2, ![32768, 128]⟩

abbrev nBuf : Space → Nat
  | .hbm => 41
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x6672, .f32⟩
  | .hbm, ⟨3, _⟩ => ⟨S32768x1024, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S_, .f32⟩
  | .hbm, ⟨8, _⟩ => ⟨S32768x1, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S32768x1, .f32⟩
  | .hbm, ⟨14, _⟩ => ⟨S32768x1024, .f32⟩
  | .hbm, ⟨15, _⟩ => ⟨S32768x1024, .f32⟩
  | .hbm, ⟨16, _⟩ => ⟨S1x1024, .f32⟩
  | .hbm, ⟨17, _⟩ => ⟨S32768x1024, .f32⟩
  | .hbm, ⟨18, _⟩ => ⟨S32768x1024, .f32⟩
  | .hbm, ⟨19, _⟩ => ⟨S32768x6672, .f32⟩
  | .hbm, ⟨20, _⟩ => ⟨S32768x512, .f32⟩
  | .hbm, ⟨21, _⟩ => ⟨S32768x512, .f32⟩
  | .hbm, ⟨22, _⟩ => ⟨S32768x16, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x3072, .f32⟩
  | .hbm, ⟨29, _⟩ => ⟨S_, .i32⟩
  | .hbm, ⟨30, _⟩ => ⟨S_, .f32⟩
  | .hbm, ⟨31, _⟩ => ⟨S32768x128, .f32⟩
  | .hbm, ⟨32, _⟩ => ⟨S32768x512, .bf16⟩
  | .hbm, ⟨33, _⟩ => ⟨S32768x512, .bf16⟩
  | .hbm, ⟨34, _⟩ => ⟨S32768x512, .bf16⟩
  | .hbm, ⟨35, _⟩ => ⟨S32768x512, .bf16⟩
  | .hbm, ⟨36, _⟩ => ⟨S32768x512, .bf16⟩
  | .hbm, ⟨37, _⟩ => ⟨S32768x512, .bf16⟩
  | .hbm, ⟨38, _⟩ => ⟨S32768x512, .bf16⟩
  | .hbm, ⟨39, _⟩ => ⟨S32768x3072, .bf16⟩
  | .hbm, ⟨40, _⟩ => ⟨S32768x128, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c : Ref sig .tc := ⟨.hbm, 29, rfl⟩
abbrev main_call0_v0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel4.lean ====
abbrev S32768x1024 : Shape := ⟨2, ![32768, 1024]⟩
abbrev S32768x512 : Shape := ⟨2, ![32768, 512]⟩
abbrev S32768x3072 : Shape := ⟨2, ![32768, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S4x128x256 : Shape := ⟨3, ![4, 128, 256]⟩
abbrev S1x512 : Shape := ⟨2, ![1, 512]⟩
abbrev S1x1024 : Shape := ⟨2, ![1, 1024]⟩
abbrev S512x512 : Shape := ⟨2, ![512, 512]⟩
abbrev S128x512 : Shape := ⟨2, ![128, 512]⟩
abbrev S512x3072 : Shape := ⟨2, ![512, 3072]⟩
abbrev S640x512 : Shape := ⟨2, ![640, 512]⟩
abbrev S128x1 : Shape := ⟨2, ![128, 1]⟩
abbrev S256x512 : Shape := ⟨2, ![256, 512]⟩
abbrev S256x128 : Shape := ⟨2, ![256, 128]⟩
abbrev S1x128x256 : Shape := ⟨3, ![1, 128, 256]⟩
abbrev S128x256 : Shape := ⟨2, ![128, 256]⟩
abbrev S128x128 : Shape := ⟨2, ![128, 128]⟩
abbrev S1x128x128 : Shape := ⟨3, ![1, 128, 128]⟩
abbrev S512x1 : Shape := ⟨2, ![512, 1]⟩

abbrev nBuf : Space → Nat
  | .hbm => 21
  | .vmem => 22
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x3072, .bf16⟩
  | .hbm, ⟨5, _⟩ => ⟨S4x128x128, .f32⟩
  | .hbm, ⟨6, _⟩ => ⟨S512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S4x128x256, .bf16⟩
  | .hbm, ⟨13, _⟩ => ⟨S4x128x128, .bf16⟩
  | .hbm, ⟨14, _⟩ => ⟨S512x1024, .bf16⟩
  | .hbm, ⟨15, _⟩ => ⟨S512x1024, .bf16⟩
  | .hbm, ⟨16, _⟩ => ⟨S512x1024, .bf16⟩
  | .hbm, ⟨17, _⟩ => ⟨S1024x1024, .bf16⟩
  | .hbm, ⟨18, _⟩ => ⟨S1x512, .f32⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S128x512, .bf16⟩
  | .local _ .vmem, ⟨9, _⟩ => ⟨S128x512, .bf16⟩
  | .local _ .vmem, ⟨10, _⟩ => ⟨S512x3072, .bf16⟩
  | .local _ .vmem, ⟨11, _⟩ => ⟨S512x3072, .bf16⟩
  | .local _ .vmem, ⟨12, _⟩ => ⟨S4x128x256, .bf16⟩
  | .local _ .vmem, ⟨13, _⟩ => ⟨S4x128x128, .bf16⟩
  | .local _ .vmem, ⟨14, _⟩ => ⟨S1x512, .f32⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S512x1024, .f32⟩
  | .local _ .vmem, ⟨21, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference4Ideal.lean ====
abbrev S32768x1024 : Shape := ⟨2, ![32768, 1024]⟩
abbrev S32768x512 : Shape := ⟨2, ![32768, 512]⟩
abbrev S32768x3072 : Shape := ⟨2, ![32768, 3072]⟩
abbrev S4x128x128 : Shape := ⟨3, ![4, 128, 128]⟩
abbrev S512 : Shape := ⟨1, ![512]⟩
abbrev S512x1024 : Shape := ⟨2, ![512, 1024]⟩
abbrev S1024x1024 : Shape := ⟨2, ![1024, 1024]⟩
abbrev S1024 : Shape := ⟨1, ![1024]⟩
abbrev S8x4096x4x128 : Shape := ⟨4, ![8, 4096, 4, 128]⟩
abbrev S_ : Shape := ⟨0, ![]⟩
abbrev S4096 : Shape := ⟨1, ![4096]⟩
abbrev S8x4096x1x128 : Shape := ⟨4, ![8, 4096, 1, 128]⟩
abbrev S8x4096x128 : Shape := ⟨3, ![8, 4096, 128]⟩
abbrev S8x4098x128 : Shape := ⟨3, ![8, 4098, 128]⟩
abbrev S1x4096x1 : Shape := ⟨3, ![1, 4096, 1]⟩
abbrev S8x4100x128 : Shape := ⟨3, ![8, 4100, 128]⟩
abbrev S8x4104x128 : Shape := ⟨3, ![8, 4104, 128]⟩
abbrev S8x4112x128 : Shape := ⟨3, ![8, 4112, 128]⟩
abbrev S4x128x8x4096 : Shape := ⟨4, ![4, 128, 8, 4096]⟩
abbrev S1x512 : Shape := ⟨2, ![1, 512]⟩
abbrev S32768x3x1024 : Shape := ⟨3, ![32768, 3, 1024]⟩
abbrev S32768x1x1024 : Shape := ⟨3, ![32768, 1, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 153
  | .vmem => 0
  | .smem => 0
  | _ => 0

abbrev hbmTy0_0 (i : Nat) : BufTy := match i % 128 with
  | 0 => ⟨S32768x1024, .f32⟩
  | 1 => ⟨S32768x512, .bf16⟩
  | 2 => ⟨S32768x512, .bf16⟩
  | 3 => ⟨S32768x512, .bf16⟩
  | 4 => ⟨S32768x3072, .bf16⟩
  | 5 => ⟨S4x128x128, .f32⟩
  | 6 => ⟨S512, .f32⟩
  | 7 => ⟨S512x1024, .f32⟩
  | 8 => ⟨S512x1024, .f32⟩
  | 9 => ⟨S512x1024, .f32⟩
  | 10 => ⟨S1024x1024, .f32⟩
  | 11 => ⟨S1024, .f32⟩
  | 12 => ⟨S32768x512, .f32⟩
  | 13 => ⟨S8x4096x4x128, .f32⟩
  | 14 => ⟨S_, .f32⟩
  | 15 => ⟨S_, .f32⟩
  | 16 => ⟨S8x4096x4x128, .f32⟩
  | 17 => ⟨S4096, .i32⟩
  | 18 => ⟨S8x4096x1x128, .f32⟩
  | 19 => ⟨S8x4096x128, .f32⟩
  | 20 => ⟨S_, .i32⟩
  | 21 => ⟨S_, .f32⟩
  | 22 => ⟨S8x4098x128, .f32⟩
  | 23 => ⟨S8x4096x128, .f32⟩
  | 24 => ⟨S_, .i32⟩
  | 25 => ⟨S4096, .i32⟩
  | 26 => ⟨S4096, .i32⟩
  | 27 => ⟨S_, .i32⟩
  | 28 => ⟨S4096, .i32⟩
  | 29 => ⟨S4096, .i32⟩
  | 30 => ⟨S4096, .f32⟩
  | 31 => ⟨S1x4096x1, .f32⟩
  | 32 => ⟨S8x4096x128, .f32⟩
  | 33 => ⟨S8x4096x128, .f32⟩
  | 34 => ⟨S8x4096x128, .f32⟩
  | 35 => ⟨S8x4096x1x128, .f32⟩
  | 36 => ⟨S8x4096x128, .f32⟩
  | 37 => ⟨S8x4096x128, .f32⟩
  | 38 => ⟨S8x4096x1x128, .f32⟩
  | 39 => ⟨S8x4096x128, .f32⟩
  | 40 => ⟨S_, .i32⟩
  | 41 => ⟨S_, .f32⟩
  | 42 => ⟨S8x4100x128, .f32⟩
  | 43 => ⟨S8x4096x128, .f32⟩
  | 44 => ⟨S_, .i32⟩
  | 45 => ⟨S4096, .i32⟩
  | 46 => ⟨S4096, .i32⟩
  | 47 => ⟨S_, .i32⟩
  | 48 => ⟨S4096, .i32⟩
  | 49 => ⟨S4096, .i32⟩
  | 50 => ⟨S4096, .f32⟩
  | 51 => ⟨S1x4096x1, .f32⟩
  | 52 => ⟨S8x4096x128, .f32⟩
  | 53 => ⟨S8x4096x128, .f32⟩
  | 54 => ⟨S8x4096x128, .f32⟩
  | 55 => ⟨S8x4096x1x128, .f32⟩
  | 56 => ⟨S8x4096x128, .f32⟩
  | 57 => ⟨S8x4096x128, .f32⟩
  | 58 => ⟨S8x4096x1x128, .f32⟩
  | 59 => ⟨S8x4096x128, .f32⟩
  | 60 => ⟨S_, .i32⟩
  | 61 => ⟨S_, .f32⟩
  | 62 => ⟨S8x4104x128, .f32⟩
  | 63 => ⟨S8x4096x128, .f32⟩
  | 64 => ⟨S_, .i32⟩
  | 65 => ⟨S4096, .i32⟩
  | 66 => ⟨S4096, .i32⟩
  | 67 => ⟨S_, .i32⟩
  | 68 => ⟨S4096, .i32⟩
  | 69 => ⟨S4096, .i32⟩
  | 70 => ⟨S4096, .f32⟩
  | 71 => ⟨S1x4096x1, .f32⟩
  | 72 => ⟨S8x4096x128, .f32⟩
  | 73 => ⟨S8x4096x128, .f32⟩
  | 74 => ⟨S8x4096x128, .f32⟩
  | 75 => ⟨S8x4096x1x128, .f32⟩
  | 76 => ⟨S8x4096x128, .f32⟩
  | 77 => ⟨S8x4096x128, .f32⟩
  | 78 => ⟨S8x4096x1x128, .f32⟩
  | 79 => ⟨S8x4096x128, .f32⟩
  | 80 => ⟨S_, .i32⟩
  | 81 => ⟨S_, .f32⟩
  | 82 => ⟨S8x4112x128, .f32⟩
  | 83 => ⟨S8x4096x128, .f32⟩
  | 84 => ⟨S_, .i32⟩
  | 85 => ⟨S4096, .i32⟩
  | 86 => ⟨S4096, .i32⟩
  | 87 => ⟨S_, .i32⟩
  | 88 => ⟨S4096, .i32⟩
  | 89 => ⟨S4096, .i32⟩
  | 90 => ⟨S4096, .f32⟩
  | 91 => ⟨S1x4096x1, .f32⟩
  | 92 => ⟨S8x4096x128, .f32⟩
  | 93 => ⟨S8x4096x128, .f32⟩
  | 94 => ⟨S8x4096x128, .f32⟩
  | 95 => ⟨S8x4096x1x128, .f32⟩
  | 96 => ⟨S8x4096x128, .f32⟩
  | 97 => ⟨S8x4096x128, .f32⟩
  | 98 => ⟨S8x4096x1x128, .f32⟩
  | 99 => ⟨S8x4096x1x128, .f32⟩
  | 100 => ⟨S8x4096x1x128, .f32⟩
  | 101 => ⟨S8x4096x1x128, .f32⟩
  | 102 => ⟨S8x4096x4x128, .f32⟩
  | 103 => ⟨S4x128x8x4096, .f32⟩
  | 104 => ⟨S8x4096x4x128, .f32⟩
  | 105 => ⟨S32768x512, .f32⟩
  | 106 => ⟨S1x512, .f32⟩
  | 107 => ⟨S32768x512, .f32⟩
  | 108 => ⟨S32768x512, .f32⟩
  | 109 => ⟨S32768x512, .f32⟩
  | 110 => ⟨S32768x1024, .f32⟩
  | 111 => ⟨S32768x1024, .f32⟩
  | 112 => ⟨S32768x512, .f32⟩
  | 113 => ⟨S32768x1024, .f32⟩
  | 114 => ⟨S32768x3072, .f32⟩
  | 115 => ⟨S32768x3072, .f32⟩
  | 116 => ⟨S32768x3072, .f32⟩
  | 117 => ⟨S_, .f32⟩
  | 118 => ⟨S32768x3072, .f32⟩
  | 119 => ⟨S32768x3072, .f32⟩
  | 120 => ⟨S_, .f32⟩
  | 121 => ⟨S32768x3072, .f32⟩
  | 122 => ⟨S32768x3072, .f32⟩
  | 123 => ⟨S32768x3x1024, .f32⟩
  | 124 => ⟨S32768x1x1024, .f32⟩
  | 125 => ⟨S32768x1024, .f32⟩
  | 126 => ⟨S32768x1024, .f32⟩
  | 127 => ⟨S32768x1x1024, .f32⟩
  | _ => ⟨S32768x1024, .f32⟩

abbrev hbmTy0_1 (i : Nat) : BufTy := match i % 128 with
  | 0 => ⟨S32768x1024, .f32⟩
  | 1 => ⟨S32768x1024, .f32⟩
  | 2 => ⟨S32768x1024, .f32⟩
  | 3 => ⟨S32768x1x1024, .f32⟩
  | 4 => ⟨S32768x1024, .f32⟩
  | 5 => ⟨S32768x1024, .f32⟩
  | 6 => ⟨S32768x1024, .f32⟩
  | 7 => ⟨S32768x1024, .f32⟩
  | 8 => ⟨S32768x1024, .f32⟩
  | 9 => ⟨S_, .f32⟩
  | 10 => ⟨S32768, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1024, .f32⟩
  | 20 => ⟨S32768x1024, .f32⟩
  | 21 => ⟨S1x1024, .f32⟩
  | 22 => ⟨S32768x1024, .f32⟩
  | 23 => ⟨S32768x1024, .f32⟩
  | 24 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_call0_call0_cst : Ref sig .tc := ⟨.hbm, 14, rfl⟩
abbrev main_call0_call0_v0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_c : Ref sig .tc := ⟨.hbm, 20, rfl⟩
abbrev main_call1_v0 : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_c_1 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_call2_v0 : Ref sig .tc := ⟨.hbm, 41, rfl⟩
abbrev main_v22 : Ref sig .tc := ⟨.hbm, 42, rfl⟩
abbrev main_v23 : Ref sig .tc := ⟨.hbm, 43, rfl⟩
abbrev main_c_3 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_5 : Ref sig .tc := ⟨.hbm, 60, rfl⟩
abbrev main_call3_v0 : Ref sig .tc := ⟨.hbm, 61, rfl⟩
abbrev main_v38 : Ref sig .tc := ⟨.hbm, 62, rfl⟩
abbrev main_v39 : Ref sig .tc := ⟨.hbm, 63, rfl⟩
abbrev main_c_6 : Ref sig .tc := ⟨.hbm, 64, rfl⟩
abbrev main_v40 : Ref sig .tc := ⟨.hbm, 65, rfl⟩
abbrev main_v41 : Ref sig .tc := ⟨.hbm, 66, rfl⟩
abbrev main_c_7 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_c_8 : Ref sig .tc := ⟨.hbm, 80, rfl⟩
abbrev main_call4_v0 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst : Ref sig .tc := ⟨.hbm, 117, rfl⟩
abbrev main_v87 : Ref sig .tc := ⟨.hbm, 118, rfl⟩
abbrev main_v88 : Ref sig .tc := ⟨.hbm, 119, rfl⟩
abbrev main_cst_11 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_12 : Ref sig .tc := ⟨.hbm, 137, rfl⟩
abbrev main_v105 : Ref sig .tc := ⟨.hbm, 138, rfl⟩
abbrev main_v106 : Ref sig .tc := ⟨.hbm, 139, rfl⟩
abbrev main_cst_13 : Ref sig .tc := ⟨.hbm, 140, rfl⟩
abbrev main_v107 : Ref sig .tc := ⟨.hbm, 141, rfl⟩
abbrev main_v108 : Ref sig .tc := ⟨.hbm, 142, rfl⟩
abbrev main_cst_14 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩

abbrev nD : Nat := 1
abbrev τ : Topo := Topo.v7x

variable {F : FTy → Type} [FloatOps F]
-- ==== Proof.Rows.lean ====
/-
  Functions of one row of a layer, on the extended reals: the norm by the mean square, the gate `g · 1/(1 + e^(−g))`, and the
  gated feed-forward sublayer. The kernels' and the references' arrays are read as these, row by row.
-/
module

public import Idealize.ShloMosaic.Lib.Pointwise

@[expose] public section

noncomputable section

open Idealize.ShloMosaic
open scoped BigOperators

namespace Cert.Layer

/-- A row scaled by the reciprocal root of its mean square and by a weight per column. -/
def rms {n : ℕ} (N : EReal) (x w : Fin n → EReal) (k : Fin n) : EReal :=
  x k * Ideal.rsqrt (Ideal.div (∑ j, x j * x j) N + Ideal.ofBits .f32 0x358637BD#32) * w k

/-- `g · 1/(1 + e^(−g))`. -/
def silu (g : EReal) : EReal := g * Ideal.div 1 (1 + Ideal.exp (-g))

/-- The gated feed-forward map of one normalised row, its entry `l`. -/
def ffn {n h : ℕ} (y : Fin n → EReal) (wg wu : Fin n → Fin h → EReal) (wd : Fin h → Fin n → EReal) (l : Fin n) : EReal :=
  ∑ f, (silu (∑ k, y k * wg k f) * ∑ k, y k * wu k f) * wd f l

/-- The channel-mixing sublayer of one row: the row plus its normalised feed-forward image. -/
def channel {n h : ℕ} (N : EReal) (x a : Fin n → EReal) (wg wu : Fin n → Fin h → EReal) (wd : Fin h → Fin n → EReal)
    (b : Fin n → EReal) (l : Fin n) : EReal :=
  x l + rms N (ffn (rms N x a) wg wu wd) b l

/-- The sublayer's row depends on its operands entry by entry. -/
theorem channel_congr {n h : ℕ} (N : EReal) {x x' a a' b b' : Fin n → EReal} {wg wg' wu wu' : Fin n → Fin h → EReal}
    {wd wd' : Fin h → Fin n → EReal} (hx : ∀ k, x k = x' k) (ha : ∀ k, a k = a' k) (hg : ∀ k f, wg k f = wg' k f)
    (hu : ∀ k f, wu k f = wu' k f) (hd : ∀ f l, wd f l = wd' f l) (hb : ∀ k, b k = b' k) (l : Fin n) :
    channel N x a wg wu wd b l = channel N x' a' wg' wu' wd' b' l := by
  obtain rfl : x = x' := funext hx
  obtain rfl : a = a' := funext ha
  obtain rfl : b = b' := funext hb
  obtain rfl : wg = wg' := funext fun k => funext (hg k)
  obtain rfl : wu = wu' := funext fun k => funext (hu k)
  obtain rfl : wd = wd' := funext fun k => funext (hd k)
  rfl

end Cert.Layer
-- ==== Proof.Ffn.lean ====
/-
  The feed-forward sublayer: one block of the kernel at an entry, the result array after the run, the reference at an entry, and
  the claim that the two arrays agree.
-/
module

public import proofs.«01_k».proof.Defs
public import proofs.«01_k».proof.Proof.Rows
public import proofs.«01_k».proof.Proof.Gen.Kernel2Ideal.Value
public import proofs.«01_k».proof.Proof.Gen.Reference2Ideal.Read
public import proofs.«01_k».proof.Proof.Gen.Reference2Ideal.Run
public import Idealize.ShloMosaic.Lib.Pointwise
public import Idealize.ShloMosaic.Lib.IdealHost

@[expose] public section

noncomputable section

open Idealize.ShloMosaic Idealize.ShloMosaic.TcCoe
open scoped BigOperators

namespace Cert.Kernel2Ideal.Ffn

open Cert.Kernel2Ideal Cert.Kernel2Ideal.Gen Cert.Layer

/-- The hidden stage of one block, at an entry. -/
theorem pay2_apply (x : FVec Ideal S256x1024 .f32) (a : FVec Ideal S1x1024 .f32) (wg wu : FVec Ideal S1024x2816 .bf16)
    (wd : FVec Ideal S2816x1024 .bf16) (r : Fin 256) (l : Fin 1024) :
    k0_pay2 (F := Ideal) x a wg wu wd (ix2 r l)
      = ffn (rms (Ideal.ofBits .f32 0x44800000#32) (fun k => x (ix2 r k)) (fun k => a (ix2 0 k)))
          (fun k f => wg (ix2 k f)) (fun k f => wu (ix2 k f)) (fun f l => wd (ix2 f l)) l := by
  pointwise [k0_pay2]
  simp only [zero_sub]
  rfl

/-- What the body stores, at an entry: the sublayer of its row. -/
theorem pay1_apply (x : FVec Ideal S256x1024 .f32) (a : FVec Ideal S1x1024 .f32) (wg wu : FVec Ideal S1024x2816 .bf16)
    (wd : FVec Ideal S2816x1024 .bf16) (b : FVec Ideal S1x1024 .f32) (r : Fin 256) (l : Fin 1024) :
    k0_pay1 (F := Ideal) x (k0_pay2 (F := Ideal) x a wg wu wd) (k0_pay3 (F := Ideal) b) (k0_pay4 (F := Ideal) x a wg wu wd) (ix2 r l)
      = channel (Ideal.ofBits .f32 0x44800000#32) (fun k => x (ix2 r k)) (fun k => a (ix2 0 k))
          (fun k f => wg (ix2 k f)) (fun k f => wu (ix2 k f)) (fun f l => wd (ix2 f l)) (fun k => b (ix2 0 k)) l := by
  have e : k0_pay4 (F := Ideal) x a wg wu wd = mulf (k0_pay2 (F := Ideal) x a wg wu wd) (k0_pay2 (F := Ideal) x a wg wu wd) := rfl
  rw [e]
  have h := pay2_apply x a wg wu wd r
  generalize k0_pay2 (F := Ideal) x a wg wu wd = z at h
  pointwise [k0_pay1, k0_pay3]
  simp only [h]
  rfl

variable (m : (ℓ : Loc nD τ sig) → Buf (Elt Ideal) ℓ)

/-- Entry `(i, l)` of the sublayer, from the arguments device `c` was launched with. -/
abbrev out (c : Dev nD) : Buf (Elt Ideal) ((c : Thread nD τ).loc main_v5) := fun i : S32768x1024.Idx =>
  channel (Ideal.ofBits .f32 0x44800000#32) (fun k => m ((c : Thread nD τ).loc main_arg0) (ix2 (i 0) k))
    (fun k => m ((c : Thread nD τ).loc main_arg1) (ix1 k))
    (fun k f => m ((c : Thread nD τ).loc main_arg2) (ix2 k f)) (fun k f => m ((c : Thread nD τ).loc main_arg3) (ix2 k f))
    (fun f l => m ((c : Thread nD τ).loc main_arg4) (ix2 f l)) (fun k => m ((c : Thread nD τ).loc main_arg5) (ix1 k)) (i 1)

/-- The gate weights as the region finds them: the argument's, narrowed. -/
theorem V_v0 (c : Dev nD) : (V m c main_v0 : FVec Ideal S1024x2816 .bf16) = (m ((c : Thread nD τ).loc main_arg2) : S1024x2816.Idx → EReal) := by
  show StableHlo.after hostOps0 _ (Proc.devRef .tc main_v0) = _
  after_results
  rfl
/-- The up weights. -/
theorem V_v1 (c : Dev nD) : (V m c main_v1 : FVec Ideal S1024x2816 .bf16) = (m ((c : Thread nD τ).loc main_arg3) : S1024x2816.Idx → EReal) := by
  show StableHlo.after hostOps0 _ (Proc.devRef .tc main_v1) = _
  after_results
  rfl
/-- The down weights. -/
theorem V_v2 (c : Dev nD) : (V m c main_v2 : FVec Ideal S2816x1024 .bf16) = (m ((c : Thread nD τ).loc main_arg4) : S2816x1024.Idx → EReal) := by
  show StableHlo.after hostOps0 _ (Proc.devRef .tc main_v2) = _
  after_results
  rfl
/-- The first norm's weights, as one row. -/
theorem V_v3 (c : Dev nD) (k : Fin 1024) : (V m c main_v3 : FVec Ideal S1x1024 .f32) (ix2 0 k) = m ((c : Thread nD τ).loc main_arg1) (ix1 k) := by
  have e : (V m c main_v3 : FVec Ideal S1x1024 .f32) = shapeCast S1x1024 (m ((c : Thread nD τ).loc main_arg1) : FVec Ideal S1024 .f32) shapeCasts_S1024_S1x1024 := by
    show StableHlo.after hostOps0 _ (Proc.devRef .tc main_v3) = _
    after_results
    rfl
  rw [e]
  pointwise
/-- The second norm's weights, as one row. -/
theorem V_v4 (c : Dev nD) (k : Fin 1024) : (V m c main_v4 : FVec Ideal S1x1024 .f32) (ix2 0 k) = m ((c : Thread nD τ).loc main_arg5) (ix1 k) := by
  have e : (V m c main_v4 : FVec Ideal S1x1024 .f32) = shapeCast S1x1024 (m ((c : Thread nD τ).loc main_arg5) : FVec Ideal S1024 .f32) shapeCasts_S1024_S1x1024 := by
    show StableHlo.after hostOps0 _ (Proc.devRef .tc main_v4) = _
    after_results
    rfl
  rw [e]
  pointwise

/-- The row windows follow the grid point. -/
theorem index_facts : ∀ t : Fin cfg0.N, win0_0.index t 0 = t.val ∧ win0_0.index t 1 = 0 ∧ win0_6.index t 0 = t.val ∧ win0_6.index t 1 = 0
    ∧ win0_1.index t = ![0, 0] ∧ win0_2.index t = ![0, 0] ∧ win0_3.index t = ![0, 0] ∧ win0_4.index t = ![0, 0] ∧ win0_5.index t = ![0, 0] :=
  (by decide +kernel : ∀ t : Fin grid0.N, _)

/-- Rows of the residual. -/
theorem blk0 (c : Dev nD) (t : Fin cfg0.N) (r : Fin 256) (k : Fin 1024) (R : Fin 32768) (hR : R.val = t.val * 256 + r.val) :
    (iblk m c 0 t : FVec Ideal S256x1024 .f32) (ix2 r k) = m ((c : Thread nD τ).loc main_arg0) (ix2 R k) := by
  obtain ⟨e0, e1, -⟩ := index_facts t
  show V m c main_arg0 (((cfg0.win 0).blk t).view.emb _) = _
  rw [V_main_arg0]
  refine congrArg _ (funext fun a => Fin.ext ?_)
  match a with
  | ⟨0, _⟩ => show win0_0.index t 0 * 256 + 1 * r.val = R.val; omega
  | ⟨1, _⟩ => show win0_0.index t 1 * 1024 + 1 * k.val = k.val; omega

/-- The first norm's weights, whole at every point. -/
theorem blk1 (c : Dev nD) (t : Fin cfg0.N) : (iblk m c 1 t : FVec Ideal S1x1024 .f32) = V m c main_v3 := by
  obtain ⟨e0, e1, e2, e3, e4, -⟩ := index_facts t
  have h0 := congrFun e4 0
  have h1 := congrFun e4 1
  funext y
  show V m c main_v3 (((cfg0.win 1).blk t).view.emb _) = _
  refine congrArg _ (funext fun a => Fin.ext ?_)
  match a with
  | ⟨0, _⟩ => show win0_1.index t 0 * 1 + 1 * (y 0).val = (y 0).val; rw [h0]; simp
  | ⟨1, _⟩ => show win0_1.index t 1 * 1024 + 1 * (y 1).val = (y 1).val; rw [h1]; simp

/-- The gate weights, whole at every point. -/
theorem blk2 (c : Dev nD) (t : Fin cfg0.N) : (iblk m c 2 t : FVec Ideal S1024x2816 .bf16) = V m c main_v0 := by
  obtain ⟨e0, e1, e2, e3, e4, e5, -⟩ := index_facts t
  have h0 := congrFun e5 0
  have h1 := congrFun e5 1
  funext y
  show V m c main_v0 (((cfg0.win 2).blk t).view.emb _) = _
  refine congrArg _ (funext fun a => Fin.ext ?_)
  match a with
  | ⟨0, _⟩ => show win0_2.index t 0 * 1024 + 1 * (y 0).val = (y 0).val; rw [h0]; simp
  | ⟨1, _⟩ => show win0_2.index t 1 * 2816 + 1 * (y 1).val = (y 1).val; rw [h1]; simp

/-- The up weights, whole at every point. -/
theorem blk3 (c : Dev nD) (t : Fin cfg0.N) : (iblk m c 3 t : FVec Ideal S1024x2816 .bf16) = V m c main_v1 := by
  obtain ⟨e0, e1, e2, e3, e4, e5, e6, -⟩ := index_facts t
  have h0 := congrFun e6 0
  have h1 := congrFun e6 1
  funext y
  show V m c main_v1 (((cfg0.win 3).blk t).view.emb _) = _
  refine congrArg _ (funext fun a => Fin.ext ?_)
  match a with
  | ⟨0, _⟩ => show win0_3.index t 0 * 1024 + 1 * (y 0).val = (y 0).val; rw [h0]; simp
  | ⟨1, _⟩ => show win0_3.index t 1 * 2816 + 1 * (y 1).val = (y 1).val; rw [h1]; simp

/-- The down weights, whole at every point. -/
theorem blk4 (c : Dev nD) (t : Fin cfg0.N) : (iblk m c 4 t : FVec Ideal S2816x1024 .bf16) = V m c main_v2 := by
  obtain ⟨e0, e1, e2, e3, e4, e5, e6, e7, -⟩ := index_facts t
  have h0 := congrFun e7 0
  have h1 := congrFun e7 1
  funext y
  show V m c main_v2 (((cfg0.win 4).blk t).view.emb _) = _
  refine congrArg _ (funext fun a => Fin.ext ?_)
  match a with
  | ⟨0, _⟩ => show win0_4.index t 0 * 2816 + 1 * (y 0).val = (y 0).val; rw [h0]; simp
  | ⟨1, _⟩ => show win0_4.index t 1 * 1024 + 1 * (y 1).val = (y 1).val; rw [h1]; simp

/-- The second norm's weights, whole at every point. -/
theorem blk5 (c : Dev nD) (t : Fin cfg0.N) : (iblk m c 5 t : FVec Ideal S1x1024 .f32) = V m c main_v4 := by
  obtain ⟨e0, e1, e2, e3, e4, e5, e6, e7, e8⟩ := index_facts t
  have h0 := congrFun e8 0
  have h1 := congrFun e8 1
  funext y
  show V m c main_v4 (((cfg0.win 5).blk t).view.emb _) = _
  refine congrArg _ (funext fun a => Fin.ext ?_)
  match a with
  | ⟨0, _⟩ => show win0_5.index t 0 * 1 + 1 * (y 0).val = (y 0).val; rw [h0]; simp
  | ⟨1, _⟩ => show win0_5.index t 1 * 1024 + 1 * (y 1).val = (y 1).val; rw [h1]; simp

/-- What point `t` writes back is block `t` of the sublayer. -/
theorem flushed_eq (c : Dev nD) (t : Fin cfg0.N) :
    (dats m 0 c).flushed 6 t = ((cfg0.win 6).blk t).view.read (Elt Ideal) (out m c) := by
  rw [Value.flushed6]
  obtain ⟨-, -, e2, e3, -⟩ := index_facts t
  have hN : cfg0.N = 128 := N_0
  funext y
  have hz : (![0, 0] : Fin 2 → Nat) = fun _ => 0 := funext fun a => by fin_cases a <;> rfl
  have hy0 : (y 0).val < 256 := (y 0).isLt
  have hy1 : (y 1).val < 1024 := (y 1).isLt
  have ht := t.isLt
  show out0_6 _ _ _ _ _ _ ((cfg0.win 6).xinj (grid0.coords t) y) = out m c (((cfg0.win 6).blk t).view.emb y)
  have ey : (cfg0.win 6).xinj (grid0.coords t) y = (ix2 ⟨(y 0).val, hy0⟩ ⟨(y 1).val, hy1⟩ : S256x1024.Idx) := by
    funext a; match a with | ⟨0, _⟩ => rfl | ⟨1, _⟩ => rfl
  have eg : ((cfg0.win 6).blk t).view.emb y = (ix2 ⟨t.val * 256 + (y 0).val, by omega⟩ ⟨(y 1).val, hy1⟩ : S32768x1024.Idx) := by
    funext a; apply Fin.ext
    match a with
    | ⟨0, _⟩ => show win0_6.index t 0 * 256 + 1 * (y 0).val = t.val * 256 + (y 0).val; omega
    | ⟨1, _⟩ => show win0_6.index t 1 * 1024 + 1 * (y 1).val = (y 1).val; omega
  unfold out0_6
  rw [View.canon_unit_zero hz, View.ld_unit_zero hz, View.ld_unit_zero hz, View.ld_unit_zero hz, View.ld_unit_zero hz, View.ld_unit_zero hz, View.ld_unit_zero hz, ey, eg]
  refine (pay1_apply (iblk m c 0 t) (iblk m c 1 t) (iblk m c 2 t) (iblk m c 3 t) (iblk m c 4 t) (iblk m c 5 t) _ _).trans ?_
  rw [blk1, blk2, blk3, blk4, blk5]
  exact channel_congr _ (fun k => blk0 m c t _ k ⟨t.val * 256 + (y 0).val, by omega⟩ rfl) (V_v3 m c)
    (fun k f => congrFun (V_v0 m c) (ix2 k f)) (fun k f => congrFun (V_v1 m c) (ix2 k f)) (fun f l => congrFun (V_v2 m c) (ix2 f l))
    (V_v4 m c) _

/-- Membership in a row block, by coordinates. -/
theorem mem_blk (t : Fin cfg0.N) (i : S32768x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v5).slice (win0_6.rect t)).set ↔ _
  rw [View.set_slice_whole, Rect.mem_set_unit]
  exact Iff.rfl

/-- The row blocks tile the result. -/
theorem cover (i : S32768x1024.Idx) : ∃ t : Fin cfg0.N, (cfg0.win 6).flush t = true ∧ i ∈ ((cfg0.win 6).blk t).view.set := by
  have h0 : (i 0).val < 32768 := (i 0).isLt
  have h1 : (i 1).val < 1024 := (i 1).isLt
  have hN : cfg0.N = 128 := N_0
  refine ⟨⟨(i 0).val / 256, by omega⟩, flush0_6 _, ?_⟩
  obtain ⟨-, -, e2, e3, -⟩ := index_facts ⟨(i 0).val / 256, by omega⟩
  rw [mem_blk]
  intro a
  match a with
  | ⟨0, _⟩ => show win0_6.index _ 0 * 256 ≤ (i 0).val ∧ (i 0).val < win0_6.index _ 0 * 256 + 256; rw [e2]; dsimp only; omega
  | ⟨1, _⟩ => show win0_6.index _ 1 * 1024 ≤ (i 1).val ∧ (i 1).val < win0_6.index _ 1 * 1024 + 1024; rw [e3]; omega

/-- The result array after the run is the sublayer, entry by entry. -/
theorem final (c : Dev nD) : (dats m 0 c).arrAt 6 cfg0.N = out m c :=
  (dats m 0 c).arrAt_eq_of_cover 6 (out m c) (fun t _ => flushed_eq m c t) cover

end Cert.Kernel2Ideal.Ffn

namespace Cert.Reference2Ideal.Ffn

open Cert.Reference2Ideal Cert.Layer Cert.Reference2Ideal.Read

/-- The feed-forward stage at an entry. -/
theorem v17_apply (x0 : FVec Ideal S32768x1024 .f32) (x1 : FVec Ideal S1024 .f32) (x2 x3 : FVec Ideal S1024x2816 .f32)
    (x4 : FVec Ideal S2816x1024 .f32) (r : Fin 32768) (l : Fin 1024) :
    val_main_v17 (F := Ideal) x0 x1 x2 x3 x4 (ix2 r l)
     = ffn (rms (Ideal.ofBits .f32 0x44800000#32) (fun k => x0 (ix2 r k)) (fun k => x1 (ix1 k)))
          (fun k f => x2 (ix2 k f)) (fun k f => x3 (ix2 k f)) (fun f l => x4 (ix2 f l)) l := by
  pointwise [val_main_v17, val_main_v16, val_main_v15, val_main_v14, val_main_v13, val_main_v12, val_main_v11, val_main_v10, val_main_v9, val_main_v8,
    val_main_v7, val_main_v6, val_main_v5, val_main_v4, val_main_v3, val_main_v2, val_main_v1, val_main_v0, val_main_call0_v0, val_main_call0_v1,
    val_main_call0_v2, val_main_call0_v3, val_main_call0_v4, val_main_call0_v5, val_main_cst, val_main_cst_0, val_main_cst_1, val_main_call0_cst, val_main_call0_cst_0]
  rfl

/-- The reference's result at an entry is the sublayer of its row. -/
theorem v31_apply (x0 : FVec Ideal S32768x1024 .f32) (x1 : FVec Ideal S1024 .f32) (x2 x3 : FVec Ideal S1024x2816 .f32)
    (x4 : FVec Ideal S2816x1024 .f32) (x5 : FVec Ideal S1024 .f32) (r : Fin 32768) (l : Fin 1024) :
    val_main_v31 (F := Ideal) x0 x1 x2 x3 x4 x5 (ix2 r l)
     = channel (Ideal.ofBits .f32 0x44800000#32) (fun k => x0 (ix2 r k)) (fun k => x1 (ix1 k))
          (fun k f => x2 (ix2 k f)) (fun k f => x3 (ix2 k f)) (fun f l => x4 (ix2 f l)) (fun k => x5 (ix1 k)) l := by
  have h := v17_apply x0 x1 x2 x3 x4 r
  unfold val_main_v31 val_main_v30 val_main_v27 val_main_v26 val_main_v25 val_main_v24 val_main_v22 val_main_v20 val_main_v19 val_main_v18
  generalize val_main_v17 (F := Ideal) x0 x1 x2 x3 x4 = z at h
  pointwise [val_main_v29, val_main_v28, val_main_v23, val_main_v21, val_main_cst_2, val_main_cst_3, val_main_cst_4]
  simp only [h]
  rfl

end Cert.Reference2Ideal.Ffn

namespace Cert.Ffn

open Idealize.SL.Sem

/-- On agreeing arguments the kernel's result and the reference's are the same array. -/
theorem algebraic : Cert.algebraic_Kernel2Ideal_Reference2Ideal := by
  intro m ρ m' ρ' _ hag
  refine ⟨fun c => Cert.Kernel2Ideal.Ffn.out m c,
    (θ_run Cert.Kernel2Ideal.defs _ _).mono (fun r h c => ?_) (Cert.Kernel2Ideal.Value.run_blocks m ρ),
    (θ_run Cert.Reference2Ideal.defs _ _).mono (fun r h c => ?_) (Cert.Reference2Ideal.Value.run (F := Ideal) m' ρ')⟩
  · exact ⟨(h c).1.trans (Cert.Kernel2Ideal.Ffn.final m c), (h c).2⟩
  · refine ⟨(h c).1.trans ?_, (h c).2⟩
    obtain ⟨h0, h1, h2, h3, h4, h5⟩ := hag c
    rw [Cert.Reference2Ideal.Read.val_main_v31_eq, h0, h1, h2, h3, h4, h5]
    funext i
    exact (congrArg _ (ValueIdx.eq_ix2 i)).trans (Cert.Reference2Ideal.Ffn.v31_apply _ _ _ _ _ _ (i 0) (i 1))

end Cert.Ffn
-- ==== Proof.Inproj.lean ====
/-
  The input projection: one block of the kernel at an entry, its nine result arrays after the run, the reference at an entry, and
  the claim that they agree.
-/
module

public import proofs.«01_k».proof.Defs
public import proofs.«01_k».proof.Proof.Rows
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pointwise
public import Idealize.ShloMosaic.Lib.IdealHost
public import Idealize.ShloMosaic.Lib.KernelVsHost

@[expose] public section

noncomputable section

open Idealize.ShloMosaic Idealize.ShloMosaic.TcCoe
open scoped BigOperators

namespace Cert.Kernel3Ideal.Inproj

open Cert.Kernel3Ideal Cert.Kernel3Ideal.Gen Cert.Layer

/-- The normalised rows of a block. -/
theorem pay1_apply (x : FVec Ideal S512x1024 .f32) (a : FVec Ideal S1x1024 .f32) (r : Fin 512) (k : Fin 1024) :
    k0_pay1 (F := Ideal) x a (ix2 r k) = rms (Ideal.ofBits .f32 0x44800000#32) (fun k => x (ix2 r k)) (fun k => a (ix2 0 k)) k := by
  pointwise [k0_pay1]
  rfl

/-- A product of the normalised rows with 512 columns. -/
theorem pay5_apply (h : FVec Ideal S512x1024 .bf16) (w : FVec Ideal S1024x512 .bf16) (r l : Fin 512) :
    k0_pay5 (F := Ideal) h w (ix2 r l) = ∑ k : Fin 1024, h (ix2 r k) * w (ix2 k l) := by
  pointwise [k0_pay5]

/-- A product of the normalised rows with 128 columns. -/
theorem pay15_apply (h : FVec Ideal S512x1024 .bf16) (w : FVec Ideal S1024x128 .bf16) (r : Fin 512) (l : Fin 128) :
    k0_pay15 (F := Ideal) h w (ix2 r l) = ∑ k : Fin 1024, h (ix2 r k) * w (ix2 k l) := by
  pointwise [k0_pay15]

variable (m : (ℓ : Loc nD τ sig) → Buf (Elt Ideal) ℓ)

/-- The argument's columns in the kernel's order: the sixteen gate columns moved behind the others and zeros after them. -/
def relaid (w : FVec Ideal S1024x6672 .f32) (k : Fin 1024) (j : ℕ) : EReal :=
  if h : j < 1024 then w (ix2 k ⟨j, by omega⟩) else if h : j < 6656 then w (ix2 k ⟨j + 16, by omega⟩)
  else if h : j < 6672 then w (ix2 k ⟨j - 5632, by omega⟩) else 0

/-- The relaid weights as the array the region finds. -/
def relay (w : FVec Ideal S1024x6672 .f32) : FVec Ideal S1024x6784 .bf16 :=
  truncf .bf16 (concatenate S1024x6784 1 [⟨S1024x256, extractStridedSlice S1024x256 ![0, 0] w slices_S1024x6672_S1024x256_0_0⟩,
    ⟨S1024x256, extractStridedSlice S1024x256 ![0, 256] w slices_S1024x6672_S1024x256_0_256⟩,
    ⟨S1024x512, extractStridedSlice S1024x512 ![0, 512] w slices_S1024x6672_S1024x512_0_512⟩,
    ⟨S1024x512, extractStridedSlice S1024x512 ![0, 1040] w slices_S1024x6672_S1024x512_0_1040⟩,
    ⟨S1024x512, extractStridedSlice S1024x512 ![0, 1552] w slices_S1024x6672_S1024x512_0_1552⟩,
    ⟨S1024x512, extractStridedSlice S1024x512 ![0, 2064] w slices_S1024x6672_S1024x512_0_2064⟩,
    ⟨S1024x512, extractStridedSlice S1024x512 ![0, 2576] w slices_S1024x6672_S1024x512_0_2576⟩,
    ⟨S1024x512, extractStridedSlice S1024x512 ![0, 3088] w slices_S1024x6672_S1024x512_0_3088⟩,
    ⟨S1024x3072, extractStridedSlice S1024x3072 ![0, 3600] w slices_S1024x6672_S1024x3072_0_3600⟩,
    ⟨S1024x128, pad S1024x128 ![0, 0] ![0, 112] ![0, 0] (extractStridedSlice S1024x16 ![0, 1024] w slices_S1024x6672_S1024x16_0_1024)
      (sitofp (F := Ideal) .f32 (constantI S_ 32 0#32)) pads_S1024x16_S1024x128_000_01120 h_S_⟩]
    concatenates_S1024x256_S1024x256_S1024x512_S1024x512_S1024x512_S1024x512_S1024x512_S1024x512_S1024x3072_S1024x128_S1024x6784_d1) bitsLt_bf16_f32

/-- The weights the region finds are the relaid argument. -/
theorem V_v12 (c : Dev nD) : (V m c main_v12 : FVec Ideal S1024x6784 .bf16) = relay (m ((c : Thread nD τ).loc main_arg2)) := by
  show StableHlo.after (List.flatten [hostOps0, hostOps0_1, hostOps0_2]) _ (Proc.devRef .tc main_v12) = _
  simp only [hostOps0, hostOps0_1, hostOps0_2, List.flatten_cons, List.flatten_nil, List.append_nil, List.cons_append, List.nil_append]
  after_results
  rfl

/-- The norm's weights, as one row. -/
theorem V_v13 (c : Dev nD) (k : Fin 1024) : (V m c main_v13 : FVec Ideal S1x1024 .f32) (ix2 0 k) = m ((c : Thread nD τ).loc main_arg1) (ix1 k) := by
  have e : (V m c main_v13 : FVec Ideal S1x1024 .f32) = shapeCast S1x1024 (m ((c : Thread nD τ).loc main_arg1) : FVec Ideal S1024 .f32) shapeCasts_S1024_S1x1024 := by
    show StableHlo.after (List.flatten [hostOps0, hostOps0_1, hostOps0_2]) _ (Proc.devRef .tc main_v13) = _
    simp only [hostOps0, hostOps0_1, hostOps0_2, List.flatten_cons, List.flatten_nil, List.append_nil, List.cons_append, List.nil_append]
    after_results
    rfl
  rw [e]
  pointwise

/-- Walking the ten pieces of the relaid row finds the same column as the three cases. -/
theorem chain (f : ℕ → EReal) (j : ℕ) (hj : j < 6784) :
    (if j < 256 then f j else if j - 256 < 256 then f (256 + (j - 256)) else if j - 256 - 256 < 512 then f (512 + (j - 256 - 256))
      else if j - 256 - 256 - 512 < 512 then f (1040 + (j - 256 - 256 - 512))
      else if j - 256 - 256 - 512 - 512 < 512 then f (1552 + (j - 256 - 256 - 512 - 512))
      else if j - 256 - 256 - 512 - 512 - 512 < 512 then f (2064 + (j - 256 - 256 - 512 - 512 - 512))
      else if j - 256 - 256 - 512 - 512 - 512 - 512 < 512 then f (2576 + (j - 256 - 256 - 512 - 512 - 512 - 512))
      else if j - 256 - 256 - 512 - 512 - 512 - 512 - 512 < 512 then f (3088 + (j - 256 - 256 - 512 - 512 - 512 - 512 - 512))
      else if j - 256 - 256 - 512 - 512 - 512 - 512 - 512 - 512 < 3072 then f (3600 + (j - 256 - 256 - 512 - 512 - 512 - 512 - 512 - 512))
      else if j - 256 - 256 - 512 - 512 - 512 - 512 - 512 - 512 - 3072 < 16 then f (1024 + (j - 256 - 256 - 512 - 512 - 512 - 512 - 512 - 512 - 3072))
      else 0)
    = if j < 1024 then f j else if j < 6656 then f (j + 16) else if j < 6672 then f (j - 5632) else 0 := by
  simp only [Nat.sub_sub]
  have key : ∀ {a b : ℕ}, a = b → f a = f b := fun h => h ▸ rfl
  norm_num only
  split_ifs <;> first | (exfalso; omega) | (exact key (by omega)) | exact Eq.refl (0 : EReal)

/-- Row `k` of the argument, column `a`, zero outside. -/
def entry (w : FVec Ideal S1024x6672 .f32) (k : Fin 1024) (a : ℕ) : EReal := if h : a < 6672 then w (ix2 k ⟨a, h⟩) else 0

/-- The relaid weights, entry by entry. -/
theorem relay_apply (w : FVec Ideal S1024x6672 .f32) (k : Fin 1024) (j : Fin 6784) : relay w (ix2 k j) = relaid w k j.val := by
  have hf : ∀ (a : ℕ) (h : a < 6672), w (ix2 k ⟨a, h⟩) = entry w k a := fun a h => by unfold entry; rw [dif_pos h]
  obtain ⟨j, hj⟩ := j
  unfold relaid
  pointwise [relay]
  simp only [hf]
  generalize entry w k = f
  have hz : (FloatOps.sitofp FTy.f32 0#32 : Ideal .f32) = 0 := sitofp_zero
  rw [hz]
  simp only [dite_eq_ite]
  exact chain f j hj

/-- The projection of one token: the normalised row against one column of the relaid weights. -/
def proj (x : Fin 1024 → EReal) (a : Fin 1024 → EReal) (w : Fin 1024 → EReal) : EReal :=
  ∑ k : Fin 1024, rms (Ideal.ofBits .f32 0x44800000#32) x a k * w k

/-- A tile of 512 columns at `off`, from the blocks. -/
theorem tile (x0 : FVec Ideal S512x1024 .f32) (x1 : FVec Ideal S1x1024 .f32) (x2 : FVec Ideal S1024x6784 .bf16) (off : ℕ)
    (h : ∀ a, (![0, off] : Fin 2 → ℕ) a + S1024x512.size a ≤ S1024x6784.size a) (h' : off + 512 ≤ 6784) (r l : Fin 512) :
    k0_pay5 (F := Ideal) (k0_pay16 x0 x1 x2) (View.ld x2 (Rect.unit (s := S1024x6784) ![0, off] S1024x512.size h)) (ix2 r l)
      = proj (fun k => x0 (ix2 r k)) (fun k => x1 (ix2 0 k)) (fun k => x2 (ix2 k ⟨off + l.val, by omega⟩)) := by
  have hz : (![0, 0] : Fin 2 → Nat) = fun _ => 0 := funext fun a => by fin_cases a <;> rfl
  rw [pay5_apply]
  unfold k0_pay16 proj
  rw [View.ld_unit_zero hz, View.ld_unit_zero hz]
  refine Finset.sum_congr rfl fun k _ => ?_
  rw [pay1_apply]
  refine congrArg _ (congrArg x2 (funext fun a => Fin.ext ?_))
  match a with
  | ⟨0, _⟩ => show 0 + 1 * k.val = k.val; omega
  | ⟨1, _⟩ => show off + 1 * l.val = off + l.val; omega

/-- The tile of 128 columns behind the others. -/
theorem tile11 (x0 : FVec Ideal S512x1024 .f32) (x1 : FVec Ideal S1x1024 .f32) (x2 : FVec Ideal S1024x6784 .bf16) (r : Fin 512) (l : Fin 128) :
    k0_pay15 (F := Ideal) (k0_pay16 x0 x1 x2) (View.ld x2 r0_22) (ix2 r l)
      = proj (fun k => x0 (ix2 r k)) (fun k => x1 (ix2 0 k)) (fun k => x2 (ix2 k ⟨6656 + l.val, by omega⟩)) := by
  have hz : (![0, 0] : Fin 2 → Nat) = fun _ => 0 := funext fun a => by fin_cases a <;> rfl
  rw [pay15_apply]
  unfold k0_pay16 proj
  rw [View.ld_unit_zero hz, View.ld_unit_zero hz]
  refine Finset.sum_congr rfl fun k _ => ?_
  rw [pay1_apply]
  refine congrArg _ (congrArg x2 (funext fun a => Fin.ext ?_))
  match a with
  | ⟨0, _⟩ => show 0 + 1 * k.val = k.val; omega
  | ⟨1, _⟩ => show 6656 + 1 * l.val = 6656 + l.val; omega

/-- The blocks' positions: point `t` holds rows `512 t` on of the tokens and the whole of the weights. -/
theorem index_facts : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] :=
  (by decide +kernel : ∀ t : Fin grid0.N, _)

/-- The rows of point `t`. -/
theorem blk0 (c : Dev nD) (t : Fin cfg0.N) (r : Fin 512) (k : Fin 1024) (R : Fin 32768) (hR : R.val = t.val * 512 + r.val) :
    (iblk m c 0 t : FVec Ideal S512x1024 .f32) (ix2 r k) = m ((c : Thread nD τ).loc main_arg0) (ix2 R k) := by
  have e := (index_facts t).1
  have e0 := congrFun e 0
  have e1 := congrFun e 1
  show V m c main_arg0 (((cfg0.win 0).blk t).view.emb _) = _
  rw [V_main_arg0]
  refine congrArg _ (funext fun a => Fin.ext ?_)
  match a with
  | ⟨0, _⟩ => show win0_0.index t 0 * 512 + 1 * r.val = R.val; rw [e0, hR]; simp
  | ⟨1, _⟩ => show win0_0.index t 1 * 1024 + 1 * k.val = k.val; rw [e1]; simp

/-- The norm's weights at every point. -/
theorem blk1 (c : Dev nD) (t : Fin cfg0.N) : (iblk m c 1 t : FVec Ideal S1x1024 .f32) = V m c main_v13 := by
  have e := (index_facts t).2.1
  have e0 := congrFun e 0
  have e1 := congrFun e 1
  funext y
  show V m c main_v13 (((cfg0.win 1).blk t).view.emb _) = _
  refine congrArg _ (funext fun a => Fin.ext ?_)
  match a with
  | ⟨0, _⟩ => show win0_1.index t 0 * 1 + 1 * (y 0).val = (y 0).val; rw [e0]; simp
  | ⟨1, _⟩ => show win0_1.index t 1 * 1024 + 1 * (y 1).val = (y 1).val; rw [e1]; simp

/-- The relaid weights at every point. -/
theorem blk2 (c : Dev nD) (t : Fin cfg0.N) : (iblk m c 2 t : FVec Ideal S1024x6784 .bf16) = V m c main_v12 := by
  have e := (index_facts t).2.2.1
  have e0 := congrFun e 0
  have e1 := congrFun e 1
  funext y
  show V m c main_v12 (((cfg0.win 2).blk t).view.emb _) = _
  refine congrArg _ (funext fun a => Fin.ext ?_)
  match a with
  | ⟨0, _⟩ => show win0_2.index t 0 * 1024 + 1 * (y 0).val = (y 0).val; rw [e0]; simp
  | ⟨1, _⟩ => show win0_2.index t 1 * 6784 + 1 * (y 1).val = (y 1).val; rw [e1]; simp

/-- Token `n`'s projection onto relaid column `j`, of the launch's arguments. -/
def out (c : Dev nD) (n : Fin 32768) (j : ℕ) : EReal :=
  proj (fun k => m ((c : Thread nD τ).loc main_arg0) (ix2 n k)) (fun k => m ((c : Thread nD τ).loc main_arg1) (ix1 k))
    (fun k => relaid (m ((c : Thread nD τ).loc main_arg2)) k j)

/-- A projection from the blocks is the projection of the arguments. -/
theorem proj_blk (c : Dev nD) (t : Fin cfg0.N) (r : Fin 512) (j : Fin 6784) (R : Fin 32768) (hR : R.val = t.val * 512 + r.val) :
    proj (fun k => (iblk m c 0 t : FVec Ideal S512x1024 .f32) (ix2 r k)) (fun k => (iblk m c 1 t : FVec Ideal S1x1024 .f32) (ix2 0 k))
      (fun k => (iblk m c 2 t : FVec Ideal S1024x6784 .bf16) (ix2 k j)) = out m c R j.val := by
  unfold out
  congr 1
  · funext k; exact blk0 m c t r k R hR
  · funext k; rw [blk1]; exact V_v13 m c k
  · funext k; rw [blk2, V_v12]; exact relay_apply _ k j

/-- Every token lies in one point's block. -/
theorem split (n : Fin 32768) : ∃ (t : Fin cfg0.N) (r : Fin 512), n.val = t.val * 512 + r.val :=
  ⟨⟨n.val / 512, by have hN : cfg0.N = 64 := N_0; omega⟩, ⟨n.val % 512, Nat.mod_lt _ (by norm_num)⟩, by dsimp only; omega⟩

/-- An index from its two coordinates. -/
theorem ix2_of {a b : ℕ} {n : Fin a} {l : Fin b} (i : (⟨2, ![a, b]⟩ : Shape).Idx) (h0 : n.val = (i 0).val) (h1 : l.val = (i 1).val) :
    (ix2 n l : (⟨2, ![a, b]⟩ : Shape).Idx) = i := by
  funext d; apply Fin.ext
  match d with
  | ⟨0, _⟩ => exact h0
  | ⟨1, _⟩ => exact h1

/-- The zero offsets. -/
theorem zeros : (![0, 0] : Fin 2 → Nat) = fun _ => 0 := funext fun a => by fin_cases a <;> rfl

/-- Columns 0 to 511 after the run. -/
theorem final3 (c : Dev nD) (n : Fin 32768) (l : Fin 512) : (dats m 0 c).arrAt 3 cfg0.N (ix2 n l) = out m c n (0 + l.val) := by
  obtain ⟨t, r, ht⟩ := split n
  obtain ⟨-, -, -, e, -⟩ := index_facts t
  refine (congrArg ((dats m 0 c).arrAt 3 cfg0.N) (ix2_of (((cfg0.win 3).blk t).view.emb (ix2 r l : S512x512.Idx))
    (show n.val = win0_3.index t 0 * 512 + 1 * r.val by rw [e, ht]; simp) (show l.val = win0_3.index t 1 * 512 + 1 * l.val by rw [e]; simp))).trans
    (((dats m 0 c).arrAt_emb_eq_flushed 3 Value.disjoint3 t (flush0_3 t) (ix2 r l : S512x512.Idx)).trans ?_)
  show (dats m 0 c).flushed 3 t (ix2 r l : S512x512.Idx) = _
  rw [Value.flushed3]
  show out0_3 _ _ _ (ix2 r l : S512x512.Idx) = _
  unfold out0_3
  rw [View.canon_unit_zero zeros]
  exact (tile _ _ _ _ _ (by norm_num) r l).trans (proj_blk m c t r _ n ht)

/-- Columns 512 to 1023 after the run. -/
theorem final4 (c : Dev nD) (n : Fin 32768) (l : Fin 512) : (dats m 0 c).arrAt 4 cfg0.N (ix2 n l) = out m c n (512 + l.val) := by
  obtain ⟨t, r, ht⟩ := split n
  obtain ⟨-, -, -, -, e, -⟩ := index_facts t
  refine (congrArg ((dats m 0 c).arrAt 4 cfg0.N) (ix2_of (((cfg0.win 4).blk t).view.emb (ix2 r l : S512x512.Idx))
    (show n.val = win0_4.index t 0 * 512 + 1 * r.val by rw [e, ht]; simp) (show l.val = win0_4.index t 1 * 512 + 1 * l.val by rw [e]; simp))).trans
    (((dats m 0 c).arrAt_emb_eq_flushed 4 Value.disjoint4 t (flush0_4 t) (ix2 r l : S512x512.Idx)).trans ?_)
  show (dats m 0 c).flushed 4 t (ix2 r l : S512x512.Idx) = _
  rw [Value.flushed4]
  show out0_4 _ _ _ (ix2 r l : S512x512.Idx) = _
  unfold out0_4
  rw [View.canon_unit_zero zeros]
  exact (tile _ _ _ _ _ (by norm_num) r l).trans (proj_blk m c t r _ n ht)

/-- Columns 1024 to 1535 after the run. -/
theorem final5 (c : Dev nD) (n : Fin 32768) (l : Fin 512) : (dats m 0 c).arrAt 5 cfg0.N (ix2 n l) = out m c n (1024 + l.val) := by
  obtain ⟨t, r, ht⟩ := split n
  obtain ⟨-, -, -, -, -, e, -⟩ := index_facts t
  refine (congrArg ((dats m 0 c).arrAt 5 cfg0.N) (ix2_of (((cfg0.win 5).blk t).view.emb (ix2 r l : S512x512.Idx))
    (show n.val = win0_5.index t 0 * 512 + 1 * r.val by rw [e, ht]; simp) (show l.val = win0_5.index t 1 * 512 + 1 * l.val by rw [e]; simp))).trans
    (((dats m 0 c).arrAt_emb_eq_flushed 5 Value.disjoint5 t (flush0_5 t) (ix2 r l : S512x512.Idx)).trans ?_)
  show (dats m 0 c).flushed 5 t (ix2 r l : S512x512.Idx) = _
  rw [Value.flushed5]
  show out0_5 _ _ _ (ix2 r l : S512x512.Idx) = _
  unfold out0_5
  rw [View.canon_unit_zero zeros]
  exact (tile _ _ _ _ _ (by norm_num) r l).trans (proj_blk m c t r _ n ht)

/-- Columns 1536 to 2047 after the run. -/
theorem final6 (c : Dev nD) (n : Fin 32768) (l : Fin 512) : (dats m 0 c).arrAt 6 cfg0.N (ix2 n l) = out m c n (1536 + l.val) := by
  obtain ⟨t, r, ht⟩ := split n
  obtain ⟨-, -, -, -, -, -, e, -⟩ := index_facts t
  refine (congrArg ((dats m 0 c).arrAt 6 cfg0.N) (ix2_of (((cfg0.win 6).blk t).view.emb (ix2 r l : S512x512.Idx))
    (show n.val = win0_6.index t 0 * 512 + 1 * r.val by rw [e, ht]; simp) (show l.val = win0_6.index t 1 * 512 + 1 * l.val by rw [e]; simp))).trans
    (((dats m 0 c).arrAt_emb_eq_flushed 6 Value.disjoint6 t (flush0_6 t) (ix2 r l : S512x512.Idx)).trans ?_)
  show (dats m 0 c).flushed 6 t (ix2 r l : S512x512.Idx) = _
  rw [Value.flushed6]
  show out0_6 _ _ _ (ix2 r l : S512x512.Idx) = _
  unfold out0_6
  rw [View.canon_unit_zero zeros]
  exact (tile _ _ _ _ _ (by norm_num) r l).trans (proj_blk m c t r _ n ht)

/-- Columns 2048 to 2559 after the run. -/
theorem final7 (c : Dev nD) (n : Fin 32768) (l : Fin 512) : (dats m 0 c).arrAt 7 cfg0.N (ix2 n l) = out m c n (2048 + l.val) := by
  obtain ⟨t, r, ht⟩ := split n
  obtain ⟨-, -, -, -, -, -, -, e, -⟩ := index_facts t
  refine (congrArg ((dats m 0 c).arrAt 7 cfg0.N) (ix2_of (((cfg0.win 7).blk t).view.emb (ix2 r l : S512x512.Idx))
    (show n.val = win0_7.index t 0 * 512 + 1 * r.val by rw [e, ht]; simp) (show l.val = win0_7.index t 1 * 512 + 1 * l.val by rw [e]; simp))).trans
    (((dats m 0 c).arrAt_emb_eq_flushed 7 Value.disjoint7 t (flush0_7 t) (ix2 r l : S512x512.Idx)).trans ?_)
  show (dats m 0 c).flushed 7 t (ix2 r l : S512x512.Idx) = _
  rw [Value.flushed7]
  show out0_7 _ _ _ (ix2 r l : S512x512.Idx) = _
  unfold out0_7
  rw [View.canon_unit_zero zeros]
  exact (tile _ _ _ _ _ (by norm_num) r l).trans (proj_blk m c t r _ n ht)

/-- Columns 2560 to 3071 after the run. -/
theorem final8 (c : Dev nD) (n : Fin 32768) (l : Fin 512) : (dats m 0 c).arrAt 8 cfg0.N (ix2 n l) = out m c n (2560 + l.val) := by
  obtain ⟨t, r, ht⟩ := split n
  obtain ⟨-, -, -, -, -, -, -, -, e, -⟩ := index_facts t
  refine (congrArg ((dats m 0 c).arrAt 8 cfg0.N) (ix2_of (((cfg0.win 8).blk t).view.emb (ix2 r l : S512x512.Idx))
    (show n.val = win0_8.index t 0 * 512 + 1 * r.val by rw [e, ht]; simp) (show l.val = win0_8.index t 1 * 512 + 1 * l.val by rw [e]; simp))).trans
    (((dats m 0 c).arrAt_emb_eq_flushed 8 Value.disjoint8 t (flush0_8 t) (ix2 r l : S512x512.Idx)).trans ?_)
  show (dats m 0 c).flushed 8 t (ix2 r l : S512x512.Idx) = _
  rw [Value.flushed8]
  show out0_8 _ _ _ (ix2 r l : S512x512.Idx) = _
  unfold out0_8
  rw [View.canon_unit_zero zeros]
  exact (tile _ _ _ _ _ (by norm_num) r l).trans (proj_blk m c t r _ n ht)

/-- Columns 3072 to 3583 after the run. -/
theorem final9 (c : Dev nD) (n : Fin 32768) (l : Fin 512) : (dats m 0 c).arrAt 9 cfg0.N (ix2 n l) = out m c n (3072 + l.val) := by
  obtain ⟨t, r, ht⟩ := split n
  obtain ⟨-, -, -, -, -, -, -, -, -, e, -⟩ := index_facts t
  refine (congrArg ((dats m 0 c).arrAt 9 cfg0.N) (ix2_of (((cfg0.win 9).blk t).view.emb (ix2 r l : S512x512.Idx))
    (show n.val = win0_9.index t 0 * 512 + 1 * r.val by rw [e, ht]; simp) (show l.val = win0_9.index t 1 * 512 + 1 * l.val by rw [e]; simp))).trans
    (((dats m 0 c).arrAt_emb_eq_flushed 9 Value.disjoint9 t (flush0_9 t) (ix2 r l : S512x512.Idx)).trans ?_)
  show (dats m 0 c).flushed 9 t (ix2 r l : S512x512.Idx) = _
  rw [Value.flushed9]
  show out0_9 _ _ _ (ix2 r l : S512x512.Idx) = _
  unfold out0_9
  rw [View.canon_unit_zero zeros]
  exact (tile _ _ _ _ _ (by norm_num) r l).trans (proj_blk m c t r _ n ht)

/-- A point's gate columns as one array over the six stores. -/
def gates (x0 : FVec Ideal S512x1024 .f32) (x1 : FVec Ideal S1x1024 .f32) (x2 : FVec Ideal S1024x6784 .bf16) (y : S512x3072.Idx) : EReal :=
  proj (fun k => x0 (ix2 (y 0) k)) (fun k => x1 (ix2 0 k)) (fun k => x2 (ix2 k ⟨3584 + (y 1).val, by have : (y 1).val < 3072 := (y 1).isLt; omega⟩))

/-- One of the six stores is its part of the gate columns. -/
theorem gate_tile (x0 : FVec Ideal S512x1024 .f32) (x1 : FVec Ideal S1x1024 .f32) (x2 : FVec Ideal S1024x6784 .bf16) (o o' : ℕ)
    (h : ∀ a, (![0, o'] : Fin 2 → ℕ) a + S1024x512.size a ≤ S1024x6784.size a)
    (h2 : ∀ a, (![0, o] : Fin 2 → ℕ) a + S512x512.size a ≤ S512x3072.size a) (ho : o' = 3584 + o) (h' : o' + 512 ≤ 6784) (y : S512x512.Idx) :
    k0_pay5 (F := Ideal) (k0_pay16 x0 x1 x2) (View.ld x2 (Rect.unit (s := S1024x6784) ![0, o'] S1024x512.size h)) y
      = gates x0 x1 x2 ((Rect.unit (s := S512x3072) ![0, o] S512x512.size h2).emb y) := by
  subst ho
  refine (congrArg _ (ValueIdx.eq_ix2 y)).trans ((tile x0 x1 x2 _ h h' (y 0) (y 1)).trans ?_)
  unfold gates
  congr 1
  · funext k
    refine congrArg x0 (congrArg (fun r => ix2 r k) (Fin.ext ?_))
    show (y 0).val = 0 + 1 * (y 0).val; omega
  · funext k
    refine congrArg x2 (congrArg (fun r => ix2 k r) (Fin.ext ?_))
    show 3584 + o + (y 1).val = 3584 + (o + 1 * (y 1).val); omega

/-- The gates' columns after the run. -/
theorem final10 (c : Dev nD) (n : Fin 32768) (l : Fin 3072) : (dats m 0 c).arrAt 10 cfg0.N (ix2 n l) = out m c n (3584 + l.val) := by
  obtain ⟨t, r, ht⟩ := split n
  obtain ⟨-, -, -, -, -, -, -, -, -, -, e, -⟩ := index_facts t
  refine (congrArg ((dats m 0 c).arrAt 10 cfg0.N) (ix2_of (((cfg0.win 10).blk t).view.emb (ix2 r l : S512x3072.Idx))
    (show n.val = win0_10.index t 0 * 512 + 1 * r.val by rw [e, ht]; simp) (show l.val = win0_10.index t 1 * 3072 + 1 * l.val by rw [e]; simp))).trans
    (((dats m 0 c).arrAt_emb_eq_flushed 10 Value.disjoint10 t (flush0_10 t) (ix2 r l : S512x3072.Idx)).trans ?_)
  show (dats m 0 c).flushed 10 t (ix2 r l : S512x3072.Idx) = _
  rw [Value.flushed10]
  show out0_10 _ _ _ (ix2 r l : S512x3072.Idx) = _
  unfold out0_10
  refine (View.canon_apply_of_pieces (gates (iblk m c 0 t) (iblk m c 1 t) (iblk m c 2 t)) _ ?_ (ix2 r l : S512x3072.Idx) (cover0_10 _ _ _ _ _ _ _)).trans
    (proj_blk m c t r ⟨3584 + l.val, by omega⟩ n ht)
  intro p hp
  simp only [List.mem_cons, List.not_mem_nil, or_false] at hp
  rcases hp with rfl | rfl | rfl | rfl | rfl | rfl
  · exact gate_tile _ _ _ _ _ _ inb_S512x3072_S512x512_0_2560 (by norm_num) (by norm_num)
  · exact gate_tile _ _ _ _ _ _ inb_S512x3072_S512x512_0_2048 (by norm_num) (by norm_num)
  · exact gate_tile _ _ _ _ _ _ inb_S512x3072_S512x512_0_1536 (by norm_num) (by norm_num)
  · exact gate_tile _ _ _ _ _ _ inb_S512x3072_S512x512_0_1024 (by norm_num) (by norm_num)
  · exact gate_tile _ _ _ _ _ _ inb_S512x3072_S512x512_0_512 (by norm_num) (by norm_num)
  · exact gate_tile _ _ _ _ _ _ inb_S512x3072_S512x512_0_0 (by norm_num) (by norm_num)

/-- The gate factor's columns and the padding after the run. -/
theorem final11 (c : Dev nD) (n : Fin 32768) (l : Fin 128) : (dats m 0 c).arrAt 11 cfg0.N (ix2 n l) = out m c n (6656 + l.val) := by
  obtain ⟨t, r, ht⟩ := split n
  obtain ⟨-, -, -, -, -, -, -, -, -, -, -, e⟩ := index_facts t
  refine (congrArg ((dats m 0 c).arrAt 11 cfg0.N) (ix2_of (((cfg0.win 11).blk t).view.emb (ix2 r l : S512x128.Idx))
    (show n.val = win0_11.index t 0 * 512 + 1 * r.val by rw [e, ht]; simp) (show l.val = win0_11.index t 1 * 128 + 1 * l.val by rw [e]; simp))).trans
    (((dats m 0 c).arrAt_emb_eq_flushed 11 Value.disjoint11 t (flush0_11 t) (ix2 r l : S512x128.Idx)).trans ?_)
  show (dats m 0 c).flushed 11 t (ix2 r l : S512x128.Idx) = _
  rw [Value.flushed11]
  show out0_11 _ _ _ (ix2 r l : S512x128.Idx) = _
  unfold out0_11
  rw [View.canon_unit_zero zeros]
  exact (tile11 _ _ _ r l).trans (proj_blk m c t r _ n ht)

/-- A relaid column below 1024 is the argument's. -/
theorem relaid_low (w : FVec Ideal S1024x6672 .f32) (k : Fin 1024) (j : ℕ) (h : j < 1024) : relaid w k j = w (ix2 k ⟨j, by omega⟩) := by
  unfold relaid; rw [dif_pos h]

/-- A relaid column from 1024 to 6655 is the argument's sixteen columns further on. -/
theorem relaid_mid (w : FVec Ideal S1024x6672 .f32) (k : Fin 1024) (j : ℕ) (h : 1024 ≤ j) (h' : j < 6656) : relaid w k j = w (ix2 k ⟨j + 16, by omega⟩) := by
  unfold relaid; rw [dif_neg (by omega), dif_pos h']

/-- The next sixteen are the gate factor's. -/
theorem relaid_gate (w : FVec Ideal S1024x6672 .f32) (k : Fin 1024) (j : ℕ) (h : 6656 ≤ j) (h' : j < 6672) : relaid w k j = w (ix2 k ⟨j - 5632, by omega⟩) := by
  unfold relaid; rw [dif_neg (by omega), dif_neg (by omega), dif_pos h']

/-- The rest are zero. -/
theorem relaid_pad (w : FVec Ideal S1024x6672 .f32) (k : Fin 1024) (j : ℕ) (h : 6672 ≤ j) : relaid w k j = 0 := by
  unfold relaid; rw [dif_neg (by omega), dif_neg (by omega), dif_neg (by omega)]

end Cert.Kernel3Ideal.Inproj

namespace Cert.Reference3Ideal.Inproj

open Cert.Reference3Ideal Cert.Layer Cert.Reference3Ideal.Read Cert.Kernel3Ideal.Inproj

/-- Token `n`'s normalised row against column `j` of the weights. -/
theorem v13_apply (x0 : FVec Ideal S32768x1024 .f32) (x1 : FVec Ideal S1024 .f32) (x2 : FVec Ideal S1024x6672 .f32) (n : Fin 32768) (j : Fin 6672) :
    val_main_v13 (F := Ideal) x0 x1 x2 (ix2 n j) = proj (fun k => x0 (ix2 n k)) (fun k => x1 (ix1 k)) (fun k => x2 (ix2 k j)) := by
  pointwise [val_main_v13, val_main_v12, val_main_v11, val_main_v10, val_main_v9, val_main_v8,
    val_main_v7, val_main_v6, val_main_v5, val_main_v4, val_main_v3, val_main_v2, val_main_v1, val_main_v0, val_main_cst, val_main_cst_0, val_main_cst_1]
  rfl

/-- Result 0 is the projection onto the kernel's columns from 0. -/
theorem v24_apply (x0 : FVec Ideal S32768x1024 .f32) (x1 : FVec Ideal S1024 .f32) (x2 : FVec Ideal S1024x6672 .f32) (n : Fin 32768) (l : Fin 512) :
    val_main_v24 (F := Ideal) x0 x1 x2 (ix2 n l) = proj (fun k => x0 (ix2 n k)) (fun k => x1 (ix1 k)) (fun k => relaid x2 k (0 + l.val)) := by
  have h := v13_apply x0 x1 x2 n
  unfold val_main_v24 val_main_v14
  generalize val_main_v13 (F := Ideal) x0 x1 x2 = z at h
  pointwise
  rw [h]
  congr 1; funext k; rw [relaid_low _ _ _ (by omega)]

/-- Result 1 is the projection onto the kernel's columns from 512. -/
theorem v25_apply (x0 : FVec Ideal S32768x1024 .f32) (x1 : FVec Ideal S1024 .f32) (x2 : FVec Ideal S1024x6672 .f32) (n : Fin 32768) (l : Fin 512) :
    val_main_v25 (F := Ideal) x0 x1 x2 (ix2 n l) = proj (fun k => x0 (ix2 n k)) (fun k => x1 (ix1 k)) (fun k => relaid x2 k (512 + l.val)) := by
  have h := v13_apply x0 x1 x2 n
  unfold val_main_v25 val_main_v15
  generalize val_main_v13 (F := Ideal) x0 x1 x2 = z at h
  pointwise
  rw [h]
  congr 1; funext k; rw [relaid_low _ _ _ (by omega)]

/-- Result 2 is the projection onto the kernel's columns from 1024. -/
theorem v26_apply (x0 : FVec Ideal S32768x1024 .f32) (x1 : FVec Ideal S1024 .f32) (x2 : FVec Ideal S1024x6672 .f32) (n : Fin 32768) (l : Fin 512) :
    val_main_v26 (F := Ideal) x0 x1 x2 (ix2 n l) = proj (fun k => x0 (ix2 n k)) (fun k => x1 (ix1 k)) (fun k => relaid x2 k (1024 + l.val)) := by
  have h := v13_apply x0 x1 x2 n
  unfold val_main_v26 val_main_v17
  generalize val_main_v13 (F := Ideal) x0 x1 x2 = z at h
  pointwise
  rw [h]
  congr 1; funext k; rw [relaid_mid _ _ _ (by omega) (by omega)]
  refine congrArg x2 (congrArg (fun r => ix2 k r) (Fin.ext ?_))
  show 1040 + l.val = 1024 + l.val + 16; omega

/-- Result 3 is the projection onto the kernel's columns from 1536. -/
theorem v27_apply (x0 : FVec Ideal S32768x1024 .f32) (x1 : FVec Ideal S1024 .f32) (x2 : FVec Ideal S1024x6672 .f32) (n : Fin 32768) (l : Fin 512) :
    val_main_v27 (F := Ideal) x0 x1 x2 (ix2 n l) = proj (fun k => x0 (ix2 n k)) (fun k => x1 (ix1 k)) (fun k => relaid x2 k (1536 + l.val)) := by
  have h := v13_apply x0 x1 x2 n
  unfold val_main_v27 val_main_v18
  generalize val_main_v13 (F := Ideal) x0 x1 x2 = z at h
  pointwise
  rw [h]
  congr 1; funext k; rw [relaid_mid _ _ _ (by omega) (by omega)]
  refine congrArg x2 (congrArg (fun r => ix2 k r) (Fin.ext ?_))
  show 1552 + l.val = 1536 + l.val + 16; omega

/-- Result 4 is the projection onto the kernel's columns from 2048. -/
theorem v28_apply (x0 : FVec Ideal S32768x1024 .f32) (x1 : FVec Ideal S1024 .f32) (x2 : FVec Ideal S1024x6672 .f32) (n : Fin 32768) (l : Fin 512) :
    val_main_v28 (F := Ideal) x0 x1 x2 (ix2 n l) = proj (fun k => x0 (ix2 n k)) (fun k => x1 (ix1 k)) (fun k => relaid x2 k (2048 + l.val)) := by
  have h := v13_apply x0 x1 x2 n
  unfold val_main_v28 val_main_v19
  generalize val_main_v13 (F := Ideal) x0 x1 x2 = z at h
  pointwise
  rw [h]
  congr 1; funext k; rw [relaid_mid _ _ _ (by omega) (by omega)]
  refine congrArg x2 (congrArg (fun r => ix2 k r) (Fin.ext ?_))
  show 2064 + l.val = 2048 + l.val + 16; omega

/-- Result 5 is the projection onto the kernel's columns from 2560. -/
theorem v29_apply (x0 : FVec Ideal S32768x1024 .f32) (x1 : FVec Ideal S1024 .f32) (x2 : FVec Ideal S1024x6672 .f32) (n : Fin 32768) (l : Fin 512) :
    val_main_v29 (F := Ideal) x0 x1 x2 (ix2 n l) = proj (fun k => x0 (ix2 n k)) (fun k => x1 (ix1 k)) (fun k => relaid x2 k (2560 + l.val)) := by
  have h := v13_apply x0 x1 x2 n
  unfold val_main_v29 val_main_v20
  generalize val_main_v13 (F := Ideal) x0 x1 x2 = z at h
  pointwise
  rw [h]
  congr 1; funext k; rw [relaid_mid _ _ _ (by omega) (by omega)]
  refine congrArg x2 (congrArg (fun r => ix2 k r) (Fin.ext ?_))
  show 2576 + l.val = 2560 + l.val + 16; omega

/-- Result 6 is the projection onto the kernel's columns from 3072. -/
theorem v30_apply (x0 : FVec Ideal S32768x1024 .f32) (x1 : FVec Ideal S1024 .f32) (x2 : FVec Ideal S1024x6672 .f32) (n : Fin 32768) (l : Fin 512) :
    val_main_v30 (F := Ideal) x0 x1 x2 (ix2 n l) = proj (fun k => x0 (ix2 n k)) (fun k => x1 (ix1 k)) (fun k => relaid x2 k (3072 + l.val)) := by
  have h := v13_apply x0 x1 x2 n
  unfold val_main_v30 val_main_v21
  generalize val_main_v13 (F := Ideal) x0 x1 x2 = z at h
  pointwise
  rw [h]
  congr 1; funext k; rw [relaid_mid _ _ _ (by omega) (by omega)]
  refine congrArg x2 (congrArg (fun r => ix2 k r) (Fin.ext ?_))
  show 3088 + l.val = 3072 + l.val + 16; omega

/-- Result 7 is the projection onto the kernel's columns from 3584. -/
theorem v31_apply (x0 : FVec Ideal S32768x1024 .f32) (x1 : FVec Ideal S1024 .f32) (x2 : FVec Ideal S1024x6672 .f32) (n : Fin 32768) (l : Fin 3072) :
    val_main_v31 (F := Ideal) x0 x1 x2 (ix2 n l) = proj (fun k => x0 (ix2 n k)) (fun k => x1 (ix1 k)) (fun k => relaid x2 k (3584 + l.val)) := by
  have h := v13_apply x0 x1 x2 n
  unfold val_main_v31 val_main_v22
  generalize val_main_v13 (F := Ideal) x0 x1 x2 = z at h
  pointwise
  rw [h]
  congr 1; funext k; rw [relaid_mid _ _ _ (by omega) (by omega)]
  refine congrArg x2 (congrArg (fun r => ix2 k r) (Fin.ext ?_))
  show 3600 + l.val = 3584 + l.val + 16; omega

/-- Result 8 is the projection onto the gate factor's columns, then zeros. -/
theorem v32_apply (x0 : FVec Ideal S32768x1024 .f32) (x1 : FVec Ideal S1024 .f32) (x2 : FVec Ideal S1024x6672 .f32) (n : Fin 32768) (l : Fin 128) :
    val_main_v32 (F := Ideal) x0 x1 x2 (ix2 n l) = proj (fun k => x0 (ix2 n k)) (fun k => x1 (ix1 k)) (fun k => relaid x2 k (6656 + l.val)) := by
  have h := v13_apply x0 x1 x2 n
  unfold val_main_v32 val_main_v23 val_main_v16
  generalize val_main_v13 (F := Ideal) x0 x1 x2 = z at h
  pointwise
  split_ifs with hl
  · rw [h]
    congr 1; funext k; rw [relaid_gate _ _ _ (by omega) (by omega)]
    refine congrArg x2 (congrArg (fun r => ix2 k r) (Fin.ext ?_))
    show 1024 + l.val = 6656 + l.val - 5632; omega
  · unfold proj
    simp only [relaid_pad _ _ _ (show 6672 ≤ 6656 + l.val by omega), mul_zero, Finset.sum_const_zero]
    exact sitofp_zero (φ := .f32)

end Cert.Reference3Ideal.Inproj

namespace Cert.Inproj

open Idealize.SL.Sem Cert.Kernel3Ideal.Inproj Cert.Reference3Ideal.Inproj

/-- Two tables with the same entries are the same. -/
theorem ext2 {a b : ℕ} {z z' : (⟨2, ![a, b]⟩ : Shape).Idx → EReal} (h : ∀ n l, z (ix2 n l) = z' (ix2 n l)) : z = z' := by
  funext i
  rw [ValueIdx.eq_ix2 i]
  exact h _ _

/-- On agreeing arguments the kernel's nine results and the reference's are the same arrays. -/
theorem algebraic : Cert.algebraic_Kernel3Ideal_Reference3Ideal := by
  intro m ρ m' ρ' _ hag
  refine ⟨fun c i => out m c (i 0) (0 + (i 1).val), fun c i => out m c (i 0) (512 + (i 1).val), fun c i => out m c (i 0) (1024 + (i 1).val),
    fun c i => out m c (i 0) (1536 + (i 1).val), fun c i => out m c (i 0) (2048 + (i 1).val), fun c i => out m c (i 0) (2560 + (i 1).val),
    fun c i => out m c (i 0) (3072 + (i 1).val), fun c i => out m c (i 0) (3584 + (i 1).val), fun c i => out m c (i 0) (6656 + (i 1).val),
    (θ_run Cert.Kernel3Ideal.defs _ _).mono (fun r h c => ?_) (Cert.Kernel3Ideal.Value.run_blocks m ρ),
    (θ_run Cert.Reference3Ideal.defs _ _).mono (fun r h c => ?_) (Cert.Reference3Ideal.Value.run (F := Ideal) m' ρ')⟩
  · obtain ⟨h0, h1, h2, h3, h4, h5, h6, h7, h8, hr⟩ := h c
    exact ⟨h0.trans (ext2 fun n l => final3 m c n l),
      h1.trans (ext2 fun n l => final4 m c n l),
      h2.trans (ext2 fun n l => final5 m c n l),
      h3.trans (ext2 fun n l => final6 m c n l),
      h4.trans (ext2 fun n l => final7 m c n l),
      h5.trans (ext2 fun n l => final8 m c n l),
      h6.trans (ext2 fun n l => final9 m c n l),
      h7.trans (ext2 fun n l => final10 m c n l),
      h8.trans (ext2 fun n l => final11 m c n l), hr⟩
  · obtain ⟨h0, h1, h2, h3, h4, h5, h6, h7, h8, hr⟩ := h c
    obtain ⟨e0, e1, e2⟩ := hag c
    rw [Cert.Reference3Ideal.Read.val_main_v24_eq, e0, e1, e2] at h0
    rw [Cert.Reference3Ideal.Read.val_main_v25_eq, e0, e1, e2] at h1
    rw [Cert.Reference3Ideal.Read.val_main_v26_eq, e0, e1, e2] at h2
    rw [Cert.Reference3Ideal.Read.val_main_v27_eq, e0, e1, e2] at h3
    rw [Cert.Reference3Ideal.Read.val_main_v28_eq, e0, e1, e2] at h4
    rw [Cert.Reference3Ideal.Read.val_main_v29_eq, e0, e1, e2] at h5
    rw [Cert.Reference3Ideal.Read.val_main_v30_eq, e0, e1, e2] at h6
    rw [Cert.Reference3Ideal.Read.val_main_v31_eq, e0, e1, e2] at h7
    rw [Cert.Reference3Ideal.Read.val_main_v32_eq, e0, e1, e2] at h8
    exact ⟨h0.trans (ext2 fun n l => v24_apply _ _ _ n l),
      h1.trans (ext2 fun n l => v25_apply _ _ _ n l),
      h2.trans (ext2 fun n l => v26_apply _ _ _ n l),
      h3.trans (ext2 fun n l => v27_apply _ _ _ n l),
      h4.trans (ext2 fun n l => v28_apply _ _ _ n l),
      h5.trans (ext2 fun n l => v29_apply _ _ _ n l),
      h6.trans (ext2 fun n l => v30_apply _ _ _ n l),
      h7.trans (ext2 fun n l => v31_apply _ _ _ n l),
      h8.trans (ext2 fun n l => v32_apply _ _ _ n l), hr⟩

end Cert.Inproj
-- ==== Proof.Pool.lean ====
/-
  The trailing means of the pooled groups and the token-mixing sublayer, stated plainly; and one piece of the kernel's pooling (a
  band product over the count, less the rows, through the group's map) read at an entry.
-/
module

public import proofs.«01_k».proof.Proof.Rows
public import proofs.«01_k».proof.Proof.Gen.Kernel4Ideal.Skeleton
public import Idealize.ShloMosaic.Lib.Pointwise
public import Idealize.ShloMosaic.Lib.IdealHost

@[expose] public section

noncomputable section

open Idealize.ShloMosaic Idealize.ShloMosaic.TcCoe
open scoped BigOperators

namespace Cert.Layer

/-- The sum of the last `w` terms of `u` up to place `P`, the terms before the start being none. -/
def trail (u : ℕ → EReal) (w P : ℕ) : EReal := ∑ d ∈ Finset.range w, if d ≤ P then u (P - d) else 0

/-- The mean of the last `w` terms (or of all, at the start), less the term itself. -/
def meanLess (u : ℕ → EReal) (w P : ℕ) : EReal := Ideal.div (trail u w P) ((((min (P + 1) w : ℕ) : ℤ) : ℝ) : EReal) - u P

/-- Column `ch` of sequence `b`, place by place. -/
def seq (x : (⟨2, ![32768, 512]⟩ : Shape).Idx → EReal) (b ch P : ℕ) : EReal :=
  x (ix2 ⟨(b * 4096 + P) % 32768, Nat.mod_lt _ (by decide)⟩ ⟨ch % 512, Nat.mod_lt _ (by decide)⟩)

/-- Entry `(R, k)` of the pooled array: the group's columns, each less its trailing mean, through the group's map. -/
def pooled (x : (⟨2, ![32768, 512]⟩ : Shape).Idx → EReal) (pw : (⟨3, ![4, 128, 128]⟩ : Shape).Idx → EReal) (R k : ℕ) : EReal :=
  ∑ c : Fin 128, meanLess (seq x (R / 4096) (128 * (k / 128) + c.val)) (2 ^ (k / 128 + 1)) (R % 4096)
    * pw (ix3 ⟨k / 128 % 4, Nat.mod_lt _ (by decide)⟩ c ⟨k % 128, Nat.mod_lt _ (by decide)⟩)

/-- `1/(1 + e^(−g))`. -/
def gate (g : EReal) : EReal := Ideal.div 1 (1 + Ideal.exp (-g))

/-- One row of the three gated branches' sum. -/
def branches (ga gb gc : Fin 1024 → EReal) (oa y oc : Fin 512 → EReal) (wa wb wc : Fin 512 → Fin 1024 → EReal) (k : Fin 1024) : EReal :=
  gate (ga k) * (∑ j, oa j * wa j k) + gate (gb k) * (∑ j, y j * wb j k) + gate (gc k) * (∑ j, oc j * wc j k)

/-- One row of the token-mixing sublayer from its branches on. -/
def mixer (N : EReal) (x : Fin 1024 → EReal) (b : Fin 1024 → EReal) (wo : Fin 1024 → Fin 1024 → EReal) (nw : Fin 1024 → EReal) (l : Fin 1024) : EReal :=
  x l + rms N (fun l => ∑ k, b k * wo k l) nw l

/-- Entry `(R, l)` of the token-mixing sublayer from its branches' inputs: residual, branches A and C, pooled activations, gates, weights. -/
def mixed (x : (⟨2, ![32768, 1024]⟩ : Shape).Idx → EReal) (oa oc pu : (⟨2, ![32768, 512]⟩ : Shape).Idx → EReal)
    (gt : (⟨2, ![32768, 3072]⟩ : Shape).Idx → EReal) (pw : (⟨3, ![4, 128, 128]⟩ : Shape).Idx → EReal) (ps : (⟨1, ![512]⟩ : Shape).Idx → EReal)
    (wa wb wc : (⟨2, ![512, 1024]⟩ : Shape).Idx → EReal) (wo : (⟨2, ![1024, 1024]⟩ : Shape).Idx → EReal) (nw : (⟨1, ![1024]⟩ : Shape).Idx → EReal)
    (R : Fin 32768) (l : Fin 1024) : EReal :=
  mixer (Ideal.ofBits .f32 0x44800000#32) (fun k => x (ix2 R k))
    (branches (fun k => gt (ix2 R ⟨k.val, by omega⟩)) (fun k => gt (ix2 R ⟨1024 + k.val, by omega⟩)) (fun k => gt (ix2 R ⟨2048 + k.val, by omega⟩))
      (fun j => oa (ix2 R j)) (fun j => pooled pu pw R.val j.val * ps (ix1 j)) (fun j => oc (ix2 R j))
      (fun j k => wa (ix2 j k)) (fun j k => wb (ix2 j k)) (fun j k => wc (ix2 j k)))
    (fun k l => wo (ix2 k l)) (fun k => nw (ix1 k)) l

/-- A sum against a band of ones is the sum over the band. -/
theorem band_sum (w r : ℕ) (hw : w ≤ 128) (hr : r < 128) (E : ℕ → EReal) :
    (∑ s : Fin 256, (if s.val ≤ r + 128 ∧ r + 128 < s.val + w then (1 : EReal) else 0) * E s.val)
      = ∑ d ∈ Finset.range w, E (r + 128 - d) := by
  rw [Finset.sum_range (fun d => E (r + 128 - d))]
  simp only [ite_mul, one_mul, zero_mul]
  rw [← Finset.sum_filter]
  refine Finset.sum_bij' (fun s hs => (⟨r + 128 - s.val, by simp at hs; omega⟩ : Fin w)) (fun d _ => (⟨r + 128 - d.val, by omega⟩ : Fin 256)) ?_ ?_ ?_ ?_ ?_
  · intro a ha; simp
  · intro d hd; simp; omega
  · intro a ha; simp at ha; ext; simp; omega
  · intro d hd; ext; simp; omega
  · intro a ha; simp at ha; congr 1; simp; omega

/-- The count of a trailing window as the machine integers give it. -/
theorem count_word (P W : ℕ) (hP : P < 4096) (hW : W ≤ 16) :
    (IntOp.minsi (IntOp.addi (BitVec.ofNat 32 P) 1#32) (BitVec.ofNat 32 W)).toInt = ((min (P + 1) W : ℕ) : ℤ) := by
  have a1 : (BitVec.ofNat 32 P + 1#32) = BitVec.ofNat 32 (P + 1) := by
    apply BitVec.eq_of_toNat_eq; simp [BitVec.toNat_add]
  have t1 : (BitVec.ofNat 32 (P + 1)).toInt = (P + 1 : ℕ) := by
    rw [BitVec.toInt_eq_toNat_of_lt] <;> simp only [BitVec.toNat_ofNat] <;> omega
  have t2 : (BitVec.ofNat 32 W).toInt = (W : ℕ) := by
    rw [BitVec.toInt_eq_toNat_of_lt] <;> simp only [BitVec.toNat_ofNat] <;> omega
  unfold IntOp.minsi IntOp.addi
  rw [a1]
  simp only [BitVec.slt, BitVec.sle, t1, t2]
  split <;> simp_all <;> omega

end Cert.Layer

namespace Cert.Kernel4Ideal.Mix

open Cert.Kernel4Ideal Cert.Kernel4Ideal.Gen Cert.Layer

/-- Position in its sequence of a row block's first row, as the kernel computes it. -/
abbrev t0 (n : ℕ) : BitVec 32 :=
  Scalar.select (Scalar.andi (Scalar.xori (Scalar.cmpi .slt (Scalar.remsi (Scalar.muli (BitVec.ofNat 32 n) 512#32) (Scalar.select (Scalar.cmpi .eq 4096#32 0#32) 1#32 4096#32)) 0#32) (Scalar.cmpi .slt (Scalar.select (Scalar.cmpi .eq 4096#32 0#32) 1#32 4096#32) 0#32)) (Scalar.cmpi .ne (Scalar.remsi (Scalar.muli (BitVec.ofNat 32 n) 512#32) (Scalar.select (Scalar.cmpi .eq 4096#32 0#32) 1#32 4096#32)) 0#32)) (Scalar.addi (Scalar.remsi (Scalar.muli (BitVec.ofNat 32 n) 512#32) (Scalar.select (Scalar.cmpi .eq 4096#32 0#32) 1#32 4096#32)) (Scalar.select (Scalar.cmpi .eq 4096#32 0#32) 1#32 4096#32)) (Scalar.remsi (Scalar.muli (BitVec.ofNat 32 n) 512#32) (Scalar.select (Scalar.cmpi .eq 4096#32 0#32) 1#32 4096#32))

/-- The place of a row block within its sequence: words of the grid point's remainder. -/
theorem t0_eq : ∀ n : Fin 64, t0 n.val = BitVec.ofNat 32 (n.val % 8 * 512) ∧
    Scalar.cmpi .sgt (t0 n.val) 0#32 = if n.val % 8 = 0 then 0#1 else 1#1 := by decide +kernel

/-- One 128-row piece of one channel group: the band's trailing sum over the count, less the row, through the group's map. -/
def sub (w : BitVec 32) (win : FVec Ideal S256x128 .bf16) (tpos : IVec S128x1 32) (band : FVec Ideal S1x128x256 .bf16)
    (pw : FVec Ideal S1x128x128 .bf16) : FVec Ideal S128x128 .f32 :=
  matmul dot_S128x128_S128x128_S128x128_1_0_0_1_n_n none
    (truncf .bf16 (subf (divf (matmul dot_S128x256_S256x128_S128x128_1_0_0_1_n_n none (shapeCast S128x256 band shapeCasts_S1x128x256_S128x256) win (constant S128x128 .f32 0x00000000#32))
      (broadcastTo S128x128 (sitofp .f32 (minsi (addi tpos (broadcast S128x1 1#32)) (broadcast S128x1 w))) broadcasts_S128x1_S128x128))
      (extf .f32 (extractStridedSlice S128x128 ![128, 0] win slices_S256x128_o128_0_S128x128) bitsLt_bf16_f32)) bitsLt_bf16_f32)
    (shapeCast S128x128 pw shapeCasts_S1x128x128_S128x128) (constant S128x128 .f32 0x00000000#32)

/-- The piece at an entry, its window being a stretch of a sequence and its band a band of ones. -/
theorem sub_apply (W P0 : ℕ) (hW : W ≤ 16) (hP : P0 + 128 ≤ 4096) (U : Fin 128 → ℕ → EReal) (win : FVec Ideal S256x128 .bf16) (tpos : IVec S128x1 32)
    (band : FVec Ideal S1x128x256 .bf16) (pw : FVec Ideal S1x128x128 .bf16)
    (htpos : ∀ r : Fin 128, tpos (ix2 r 0) = BitVec.ofNat 32 (P0 + r.val))
    (hband : ∀ (r : Fin 128) (s : Fin 256), band (ix3 0 r s) = if s.val ≤ r.val + 128 ∧ r.val + 128 < s.val + W then (1 : EReal) else 0)
    (hwin : ∀ (s : Fin 256) (c : Fin 128), 112 ≤ s.val → win (ix2 s c) = if 128 ≤ P0 + s.val then U c (P0 + s.val - 128) else 0) (r l : Fin 128) :
    sub (BitVec.ofNat 32 W) win tpos band pw (ix2 r l) = ∑ c : Fin 128, meanLess (U c) W (P0 + r.val) * pw (ix3 0 c l) := by
  have key : sub (BitVec.ofNat 32 W) win tpos band pw (ix2 r l) = ∑ c : Fin 128, (Ideal.div (∑ s : Fin 256, band (ix3 0 r s) * win (ix2 s c))
      ((((IntOp.minsi (IntOp.addi (tpos (ix2 r 0)) 1#32) (BitVec.ofNat 32 W)).toInt : ℝ)) : EReal) - win (ix2 ⟨128 + r.val, by omega⟩ c)) * pw (ix3 0 c l) := by
    pointwise [sub]
    rfl
  rw [key]
  refine Finset.sum_congr rfl fun c _ => ?_
  congr 1
  unfold meanLess
  rw [htpos, count_word _ _ (by omega) hW, hwin _ _ (by show 112 ≤ 128 + r.val; omega), if_pos (by simp; omega)]
  have e1 : (∑ s : Fin 256, band (ix3 0 r s) * win (ix2 s c)) = trail (U c) W (P0 + r.val) := by
    have e2 : ∀ s : Fin 256, band (ix3 0 r s) * win (ix2 s c)
        = (if s.val ≤ r.val + 128 ∧ r.val + 128 < s.val + W then (1 : EReal) else 0) * (fun n => if 128 ≤ P0 + n then U c (P0 + n - 128) else 0) s.val := by
      intro s
      rw [hband]
      by_cases h : s.val ≤ r.val + 128 ∧ r.val + 128 < s.val + W
      · rw [if_pos h, hwin s c (by omega)]
      · rw [if_neg h, zero_mul, zero_mul]
    refine (Finset.sum_congr rfl (fun s _ => e2 s)).trans ((band_sum W r.val (by omega) r.isLt (fun n => if 128 ≤ P0 + n then U c (P0 + n - 128) else 0)).trans ?_)
    unfold trail
    refine Finset.sum_congr rfl fun d hd => ?_
    have hd' := Finset.mem_range.mp hd
    split <;> split
    · congr 1; omega
    · omega
    · omega
    · rfl
  rw [e1]
  congr 2
  simp only
  omega

/-- The halo (none at a sequence's start) above the row block, at an entry. -/
theorem pay2_apply (i : grid0.Coords) (h : FVec Ideal S128x512 .bf16) (u : FVec Ideal S512x512 .bf16) (q : Fin 640) (c : Fin 512) :
    k0_pay2 (F := Ideal) i h u (ix2 q c) = if hq : q.val < 128 then (if (i 0).val % 8 = 0 then 0 else h (ix2 ⟨q.val, hq⟩ c)) else u (ix2 ⟨q.val - 128, by omega⟩ c) := by
  have hi : (i 0).val < 64 := (i 0).isLt
  have e := (t0_eq ⟨(i 0).val, hi⟩).2
  pointwise [k0_pay2]
  have e' := e
  unfold t0 at e'
  simp only at e'
  rw [e']
  by_cases h8 : (i 0).val % 8 = 0
  · simp only [h8, if_true]; rfl
  · simp only [h8, if_false]; rfl

end Cert.Kernel4Ideal.Mix
-- ==== Proof.Cumsum.lean ====
/-
  Running sums on the extended reals: the host's window sum over a whole axis at an entry, and the difference of two running
  sums of a sequence of reals as the sum of the terms between.
-/
module

public import proofs.«01_k».proof.Proof.Pool
public import proofs.«01_k».proof.Proof.Gen.Reference4Ideal.Read

@[expose] public section

noncomputable section

open Idealize.ShloMosaic Idealize.ShloMosaic.TcCoe
open scoped BigOperators

namespace Cert.Layer

/-- The sum of the terms up to place `P`. -/
def running (u : ℕ → EReal) (P : ℕ) : EReal := ∑ q ∈ Finset.range (P + 1), u q

/-- A running sum of reals is a real. -/
theorem running_real (u : ℕ → EReal) (h : ∀ q, ∃ r : ℝ, u q = r) (P : ℕ) : ∃ r : ℝ, running u P = r := by
  choose f hf using h
  refine ⟨∑ q ∈ Finset.range (P + 1), f q, ?_⟩
  unfold running
  rw [Finset.sum_congr rfl fun q _ => hf q]
  induction P with
  | zero => simp
  | succ n ih => rw [Finset.sum_range_succ, ih, ← EReal.coe_add, ← Finset.sum_range_succ]

/-- The running sum less the one `w` places before is the sum of the last `w` terms. -/
theorem running_sub (u : ℕ → EReal) (h : ∀ q, ∃ r : ℝ, u q = r) (w P : ℕ) :
    running u P - (if w ≤ P then running u (P - w) else 0) = trail u w P := by
  split
  · next hw =>
    have e : running u P = trail u w P + running u (P - w) := by
      unfold running trail
      rw [show P + 1 = (P - w + 1) + w by omega, Finset.sum_range_add, add_comm]
      congr 1
      rw [← Finset.sum_range_reflect]
      refine Finset.sum_congr rfl fun d hd => ?_
      have := Finset.mem_range.mp hd
      rw [if_pos (by omega)]
      congr 1
      omega
    obtain ⟨r, hr⟩ := running_real u h (P - w)
    rw [e, hr, EReal.add_sub_cancel_right]
  · next hw =>
    rw [sub_zero]
    unfold running trail
    rw [← Finset.sum_range_reflect, ← Finset.sum_subset (Finset.range_subset_range.mpr (by omega : P + 1 ≤ w))]
    · refine Finset.sum_congr rfl fun d hd => ?_
      have := Finset.mem_range.mp hd
      rw [if_pos (by omega)]
      congr 1
    · intro d _ hd
      rw [if_neg]
      intro hle
      exact hd (Finset.mem_range.mpr (by omega))

/-- Adding a list of terms in turn is adding their sum. -/
theorem foldl_add_sum {N : ℕ} (F : Fin N → EReal) (v : EReal) : (List.finRange N).foldl (fun r n => r + F n) v = v + ∑ n, F n := by
  rw [Fin.sum_univ_def]
  generalize List.finRange N = l
  induction l generalizing v with
  | nil => simp
  | cons a l ih => rw [List.foldl_cons, ih, List.map_cons, List.sum_cons, add_assoc]

/-- The host's window sum is the initial value plus the sum over the window's places. -/
theorem reduceWindow_sum {s t u : Shape} (window strides lo hi : Fin s.rank → ℕ) (x : FVec Ideal s .f32) (init : FVec Ideal u .f32)
    (h : s.ReduceWindows window strides lo hi t) (hu : 0 < u.numel) (j : t.Idx) :
    (Host.reduceWindowAdd (F := Ideal) window strides lo hi x init h hu j : EReal)
      = init (Shape.Idx.first hu) + ∑ W : (⟨s.rank, window⟩ : Shape).Idx,
          (if hin : ∀ a, lo a ≤ (j (a.cast h.1.symm)).val * strides a + (W a).val ∧ (j (a.cast h.1.symm)).val * strides a + (W a).val - lo a < s.size a
            then x (fun a => ⟨(j (a.cast h.1.symm)).val * strides a + (W a).val - lo a, (hin a).2⟩) else init (Shape.Idx.first hu)) := by
  show Host.reduceWindow (α := EReal) (fun a b => a + b) window strides lo hi x init h hu j = _
  unfold Host.reduceWindow
  dsimp only
  rw [foldl_add_sum, ← Equiv.sum_comp (⟨s.rank, window⟩ : Shape).rowMajor.symm]
  refine congrArg _ (Finset.sum_congr rfl fun i _ => ?_)
  congr

end Cert.Layer

namespace Cert.Reference4Ideal.Mix

open Cert.Reference4Ideal Cert.Layer Cert.Reference4Ideal.Read

/-- The host's running sum along the second axis, at an entry. -/
theorem cumsum_apply (x : FVec Ideal S8x4096x4x128 .f32) (init : FVec Ideal S_ .f32) (hinit : ∀ i, init i = (0 : EReal))
    (h : S8x4096x4x128.ReduceWindows ![1, 4096, 1, 1] ![1, 1, 1, 1] ![0, 4095, 0, 0] ![0, 0, 0, 0] S8x4096x4x128) (hu : 0 < S_.numel)
    (u : ℕ → EReal) (b : Fin 8) (p : Fin 4096) (g : Fin 4) (c : Fin 128) (hx : ∀ q : Fin 4096, x (ix4 b q g c) = u q.val) :
    Host.reduceWindowAdd (F := Ideal) ![1, 4096, 1, 1] ![1, 1, 1, 1] ![0, 4095, 0, 0] ![0, 0, 0, 0] x init h hu (ix4 b p g c) = running u p.val := by
  have hp := p.isLt
  refine (reduceWindow_sum _ _ _ _ x init h hu _).trans ?_
  rw [hinit, zero_add]
  have e : ∀ W : (⟨4, ![1, 4096, 1, 1]⟩ : Shape).Idx, (if hin : ∀ a : Fin 4, (![0, 4095, 0, 0] : Fin 4 → ℕ) a ≤ ((ix4 b p g c : S8x4096x4x128.Idx) a).val * (![1, 1, 1, 1] : Fin 4 → ℕ) a + (W a).val
        ∧ ((ix4 b p g c : S8x4096x4x128.Idx) a).val * (![1, 1, 1, 1] : Fin 4 → ℕ) a + (W a).val - (![0, 4095, 0, 0] : Fin 4 → ℕ) a < S8x4096x4x128.size a
        then x (fun a => ⟨((ix4 b p g c : S8x4096x4x128.Idx) a).val * (![1, 1, 1, 1] : Fin 4 → ℕ) a + (W a).val - (![0, 4095, 0, 0] : Fin 4 → ℕ) a, (hin a).2⟩) else (0 : EReal))
      = if 4095 ≤ p.val + (W 1).val then u (p.val + (W 1).val - 4095) else 0 := by
    intro W
    have w0 : (W 0).val < 1 := (W 0).isLt
    have w1 : (W 1).val < 4096 := (W 1).isLt
    have w2 : (W 2).val < 1 := (W 2).isLt
    have w3 : (W 3).val < 1 := (W 3).isLt
    by_cases hc : 4095 ≤ p.val + (W 1).val
    · rw [if_pos hc, dif_pos]
      · refine Eq.trans (congrArg x (funext fun a => Fin.ext ?_)) (hx ⟨p.val + (W 1).val - 4095, by omega⟩)
        match a with
        | ⟨0, _⟩ => show b.val * 1 + (W 0).val - 0 = b.val; omega
        | ⟨1, _⟩ => show p.val * 1 + (W 1).val - 4095 = p.val + (W 1).val - 4095; omega
        | ⟨2, _⟩ => show g.val * 1 + (W 2).val - 0 = g.val; omega
        | ⟨3, _⟩ => show c.val * 1 + (W 3).val - 0 = c.val; omega
      · intro a
        match a with
        | ⟨0, _⟩ => show 0 ≤ b.val * 1 + (W 0).val ∧ b.val * 1 + (W 0).val - 0 < 8; omega
        | ⟨1, _⟩ => show 4095 ≤ p.val * 1 + (W 1).val ∧ p.val * 1 + (W 1).val - 4095 < 4096; omega
        | ⟨2, _⟩ => show 0 ≤ g.val * 1 + (W 2).val ∧ g.val * 1 + (W 2).val - 0 < 4; omega
        | ⟨3, _⟩ => show 0 ≤ c.val * 1 + (W 3).val ∧ c.val * 1 + (W 3).val - 0 < 128; omega
    · rw [if_neg hc, dif_neg]
      intro hin
      have h1 := hin 1
      change 4095 ≤ p.val * 1 + (W 1).val ∧ _ at h1
      omega
  refine (Finset.sum_congr rfl fun W _ => e W).trans ?_
  rw [Idealize.ShloMosaic.sum_idx4]
  simp only [Fin.sum_univ_one]
  unfold running
  show (∑ n : Fin 4096, if 4095 ≤ p.val + n.val then u (p.val + n.val - 4095) else 0) = _
  rw [← Finset.sum_filter, Finset.sum_range]
  refine Finset.sum_bij' (fun n hn => (⟨p.val + n.val - 4095, by simp at hn; omega⟩ : Fin (p.val + 1))) (fun q _ => (⟨q.val + 4095 - p.val, by omega⟩ : Fin 4096)) ?_ ?_ ?_ ?_ ?_
  · intro a ha; simp
  · intro q hq; simp; omega
  · intro a ha; simp at ha; ext; simp; omega
  · intro q hq; ext; simp; omega
  · intro a ha; rfl

end Cert.Reference4Ideal.Mix
-- ==== Proof.MixMeans.lean ====
/-
  The reference's pooled groups: the difference of two running sums over the count, less the term, is the trailing mean less the
  term, for activations that are reals.
-/
module

public import proofs.«01_k».proof.Proof.Cumsum

@[expose] public section

noncomputable section

open Idealize.ShloMosaic Idealize.ShloMosaic.TcCoe
open scoped BigOperators

namespace Cert.Reference4Ideal.Mix

open Cert.Reference4Ideal Cert.Layer Cert.Reference4Ideal.Read

/-- The running sums' difference over the count, less the term, as the reference's operations write it. -/
theorem mean_step (u : ℕ → EReal) (hu : ∀ q, ∃ r : ℝ, u q = r) (w p : ℕ) (hp : p < 4096) (hw : w ≤ 16) :
    Ideal.div (running u p - if h : w ≤ p ∧ p - w < 4096 then running u (p - w) else (FloatOps.sitofp (F := Ideal) .f32 0#32 : EReal))
        (FloatOps.sitofp (F := Ideal) .f32 (IntOp.minsi (IntOp.addi (BitVec.ofNat 32 p) 1#32) (BitVec.ofNat 32 w)) : EReal) - u p
      = meanLess u w p := by
  have e0 : (FloatOps.sitofp (F := Ideal) .f32 0#32 : EReal) = 0 := by
    show (((0#32 : BitVec 32).toInt : ℝ) : EReal) = 0
    norm_num
  have e1 : (FloatOps.sitofp (F := Ideal) .f32 (IntOp.minsi (IntOp.addi (BitVec.ofNat 32 p) 1#32) (BitVec.ofNat 32 w)) : EReal)
      = ((((min (p + 1) w : ℕ) : ℤ) : ℝ) : EReal) := by
    show (((IntOp.minsi (IntOp.addi (BitVec.ofNat 32 p) 1#32) (BitVec.ofNat 32 w)).toInt : ℝ) : EReal) = _
    rw [count_word p w hp hw]
  have e2 : (if h : w ≤ p ∧ p - w < 4096 then running u (p - w) else (0 : EReal)) = if w ≤ p then running u (p - w) else 0 := by
    by_cases h : w ≤ p
    · rw [if_pos h, dif_pos ⟨h, by omega⟩]
    · rw [if_neg h, dif_neg (fun hh => h hh.1)]
  unfold meanLess
  rw [e0, e1, e2, running_sub u hu]

/-- The activations by sequence, place, group and column. -/
theorem v1_apply (x3 : FVec Ideal S32768x512 .bf16) (b : Fin 8) (p : Fin 4096) (g : Fin 4) (c : Fin 128) :
    val_main_v1 (F := Ideal) x3 (ix4 b p g c) = seq x3 b.val (128 * g.val + c.val) p.val := by
  have e : val_main_v1 (F := Ideal) x3 (ix4 b p g c) = x3 (idx_main_v1 (ix4 b p g c)) := by
    rw [val_main_v1_apply, val_main_v0_apply]
    rfl
  rw [e]
  unfold seq
  refine congrArg x3 (funext fun a => Fin.ext ?_)
  match a with
  | ⟨0, _⟩ => show (((b.val * 4096 + p.val) * 4 + g.val) * 128 + c.val) / 512 = (b.val * 4096 + p.val) % 32768; omega
  | ⟨1, _⟩ => show (((b.val * 4096 + p.val) * 4 + g.val) * 128 + c.val) % 512 = (128 * g.val + c.val) % 512; omega

/-- Their running sums along the sequence. -/
theorem v2_apply (x3 : FVec Ideal S32768x512 .bf16) (b : Fin 8) (p : Fin 4096) (g : Fin 4) (c : Fin 128) :
    val_main_v2 (F := Ideal) x3 (ix4 b p g c) = running (seq x3 b.val (128 * g.val + c.val)) p.val := by
  unfold val_main_v2
  exact cumsum_apply _ _ (fun i => by pointwise [val_main_call0_call0_v0, val_main_call0_call0_cst]) _ _ _ b p g c (fun q => v1_apply x3 b q g c)

/-- Group 0: each column less its mean over the last 2 places. -/
theorem v19_apply (x3 : FVec Ideal S32768x512 .bf16) (hx : ∀ i, ∃ r : ℝ, (x3 i : EReal) = r) (b : Fin 8) (p : Fin 4096) (c : Fin 128) :
    val_main_v19 (F := Ideal) x3 (ix3 b p c) = meanLess (seq x3 b.val c.val) 2 p.val := by
  have h2 := v2_apply x3
  have h1 := v1_apply x3
  unfold val_main_v19 val_main_v18 val_main_v16 val_main_v14 val_main_v7 val_main_v6 val_main_v5 val_main_v4 val_main_v17
  generalize val_main_v2 (F := Ideal) x3 = z2 at h2
  generalize val_main_v1 (F := Ideal) x3 = z1 at h1
  pointwise [val_main_v15, val_main_v13, val_main_v12, val_main_v11, val_main_v10, val_main_v9, val_main_v8, val_main_c, val_main_c_0, val_main_c_1, val_main_v3, val_main_call1_v0]
  simp only [h1, h2]
  rw [show 128 * (0 : Fin 4).val + c.val = c.val by simp]
  exact mean_step (seq x3 b.val c.val) (fun q => hx _) 2 p.val p.isLt (by decide)

/-- Group 1: each column less its mean over the last 4 places. -/
theorem v35_apply (x3 : FVec Ideal S32768x512 .bf16) (hx : ∀ i, ∃ r : ℝ, (x3 i : EReal) = r) (b : Fin 8) (p : Fin 4096) (c : Fin 128) :
    val_main_v35 (F := Ideal) x3 (ix3 b p c) = meanLess (seq x3 b.val (128 + c.val)) 4 p.val := by
  have h2 := v2_apply x3
  have h1 := v1_apply x3
  unfold val_main_v35 val_main_v34 val_main_v32 val_main_v30 val_main_v23 val_main_v22 val_main_v21 val_main_v20 val_main_v33
  generalize val_main_v2 (F := Ideal) x3 = z2 at h2
  generalize val_main_v1 (F := Ideal) x3 = z1 at h1
  pointwise [val_main_v31, val_main_v29, val_main_v28, val_main_v27, val_main_v26, val_main_v25, val_main_v24, val_main_c_2, val_main_c_3, val_main_c_4, val_main_v3, val_main_call2_v0]
  simp only [h1, h2]
  exact mean_step (seq x3 b.val (128 + c.val)) (fun q => hx _) 4 p.val p.isLt (by decide)

/-- Group 2: each column less its mean over the last 8 places. -/
theorem v51_apply (x3 : FVec Ideal S32768x512 .bf16) (hx : ∀ i, ∃ r : ℝ, (x3 i : EReal) = r) (b : Fin 8) (p : Fin 4096) (c : Fin 128) :
    val_main_v51 (F := Ideal) x3 (ix3 b p c) = meanLess (seq x3 b.val (256 + c.val)) 8 p.val := by
  have h2 := v2_apply x3
  have h1 := v1_apply x3
  unfold val_main_v51 val_main_v50 val_main_v48 val_main_v46 val_main_v39 val_main_v38 val_main_v37 val_main_v36 val_main_v49
  generalize val_main_v2 (F := Ideal) x3 = z2 at h2
  generalize val_main_v1 (F := Ideal) x3 = z1 at h1
  pointwise [val_main_v47, val_main_v45, val_main_v44, val_main_v43, val_main_v42, val_main_v41, val_main_v40, val_main_c_5, val_main_c_6, val_main_c_7, val_main_v3, val_main_call3_v0]
  simp only [h1, h2]
  exact mean_step (seq x3 b.val (256 + c.val)) (fun q => hx _) 8 p.val p.isLt (by decide)

/-- Group 3: each column less its mean over the last 16 places. -/
theorem v67_apply (x3 : FVec Ideal S32768x512 .bf16) (hx : ∀ i, ∃ r : ℝ, (x3 i : EReal) = r) (b : Fin 8) (p : Fin 4096) (c : Fin 128) :
    val_main_v67 (F := Ideal) x3 (ix3 b p c) = meanLess (seq x3 b.val (384 + c.val)) 16 p.val := by
  have h2 := v2_apply x3
  have h1 := v1_apply x3
  unfold val_main_v67 val_main_v66 val_main_v64 val_main_v62 val_main_v55 val_main_v54 val_main_v53 val_main_v52 val_main_v65
  generalize val_main_v2 (F := Ideal) x3 = z2 at h2
  generalize val_main_v1 (F := Ideal) x3 = z1 at h1
  pointwise [val_main_v63, val_main_v61, val_main_v60, val_main_v59, val_main_v58, val_main_v57, val_main_v56, val_main_c_8, val_main_c_9, val_main_c_10, val_main_v3, val_main_call4_v0]
  simp only [h1, h2]
  exact mean_step (seq x3 b.val (384 + c.val)) (fun q => hx _) 16 p.val p.isLt (by decide)

end Cert.Reference4Ideal.Mix
-- ==== Proof.Mix.lean ====
/-
  The token-mixing kernel's pooled branch, cut into its sixteen pieces (four row blocks by four groups), and the pieces' operands
  at an entry.
-/
module

public import proofs.«01_k».proof.Proof.Pool
public import proofs.«01_k».proof.Proof.Gen.Kernel4Ideal.Value

@[expose] public section

noncomputable section

open Idealize.ShloMosaic Idealize.ShloMosaic.TcCoe
open scoped BigOperators

namespace Cert.Kernel4Ideal.Mix

open Cert.Kernel4Ideal Cert.Kernel4Ideal.Gen Cert.Layer

/-- Sixteen pieces put together, four row blocks of four channel groups each. -/
def tile (q : Fin 4 → Fin 4 → FVec Ideal S128x128 .f32) : FVec Ideal S512x512 .f32 :=
  concatenate S512x512 0 [⟨S128x512, concatenate S128x512 1 [⟨S128x128, q 0 0⟩, ⟨S128x128, q 0 1⟩, ⟨S128x128, q 0 2⟩, ⟨S128x128, q 0 3⟩] concatenates_S128x128_S128x128_S128x128_S128x128_S128x512_d1⟩,
    ⟨S128x512, concatenate S128x512 1 [⟨S128x128, q 1 0⟩, ⟨S128x128, q 1 1⟩, ⟨S128x128, q 1 2⟩, ⟨S128x128, q 1 3⟩] concatenates_S128x128_S128x128_S128x128_S128x128_S128x512_d1⟩,
    ⟨S128x512, concatenate S128x512 1 [⟨S128x128, q 2 0⟩, ⟨S128x128, q 2 1⟩, ⟨S128x128, q 2 2⟩, ⟨S128x128, q 2 3⟩] concatenates_S128x128_S128x128_S128x128_S128x128_S128x512_d1⟩,
    ⟨S128x512, concatenate S128x512 1 [⟨S128x128, q 3 0⟩, ⟨S128x128, q 3 1⟩, ⟨S128x128, q 3 2⟩, ⟨S128x128, q 3 3⟩] concatenates_S128x128_S128x128_S128x128_S128x128_S128x512_d1⟩]
    concatenates_S128x512_S128x512_S128x512_S128x512_S512x512_d0

/-- The sixteen pieces at an entry, each being its part of one array. -/
theorem tile_apply (q : Fin 4 → Fin 4 → FVec Ideal S128x128 .f32) (Y : ℕ → ℕ → EReal)
    (h : ∀ (j g : Fin 4) (r l : Fin 128), q j g (ix2 r l) = Y (128 * j.val + r.val) (128 * g.val + l.val)) (r k : Fin 512) :
    tile q (ix2 r k) = Y r.val k.val := by
  have hr := r.isLt
  have hk := k.isLt
  pointwise [tile]
  split_ifs <;> · rw [h]; congr 1 <;> simp <;> omega

/-- Row block `j` with its halo lies within the 640 rows. -/
theorem rows_slice (j : Fin 4) : S640x512.Slices ![128 * j.val, 0] S256x512 := by
  refine ⟨rfl, fun a => ?_⟩
  have hj := j.isLt
  match a with
  | ⟨0, _⟩ => show 128 * j.val + 256 ≤ 640; omega
  | ⟨1, _⟩ => show 0 + 512 ≤ 512; omega

/-- The columns of group `g` lie within the 512. -/
theorem cols_slice (g : Fin 4) : S256x512.Slices ![0, 128 * g.val] S256x128 := by
  refine ⟨rfl, fun a => ?_⟩
  have hg := g.isLt
  match a with
  | ⟨0, _⟩ => show 0 + 256 ≤ 256; omega
  | ⟨1, _⟩ => show 128 * g.val + 128 ≤ 512; omega

/-- Rows `128 j …` of the row block and the 128 before it, columns of group `g`. -/
def win (v : FVec Ideal S640x512 .bf16) (j g : Fin 4) : FVec Ideal S256x128 .bf16 :=
  extractStridedSlice S256x128 ![0, 128 * g.val] (extractStridedSlice S256x512 ![128 * j.val, 0] v (rows_slice j)) (cols_slice g)

/-- The window at an entry. -/
theorem win_apply (v : FVec Ideal S640x512 .bf16) (j g : Fin 4) (s : Fin 256) (c : Fin 128) (A : Fin 640) (B : Fin 512)
    (hA : A.val = 128 * j.val + s.val) (hB : B.val = 128 * g.val + c.val) : win v j g (ix2 s c) = v (ix2 A B) := by
  refine (extractStridedSlice_apply _ _ (cols_slice g) _ (ix2 s B) ?_).trans (extractStridedSlice_apply _ _ (rows_slice j) _ (ix2 A B) ?_)
  · intro a
    match a with
    | ⟨0, _⟩ => show s.val = 0 + s.val; omega
    | ⟨1, _⟩ => exact hB
  · intro a
    match a with
    | ⟨0, _⟩ => exact hA
    | ⟨1, _⟩ => show B.val = 0 + B.val; omega

/-- The positions of rows `128 j …`. -/
def tpos (n : ℕ) (j : Fin 4) : IVec S128x1 32 :=
  addi (broadcast S128x1 (Scalar.addi (t0 n) (BitVec.ofNat 32 (128 * j.val)))) (iota .tc S128x1 32 [0] iota_S128x1_d0_w32)

/-- A row's place within its sequence. -/
theorem tpos_apply (n : ℕ) (hn : n < 64) (j : Fin 4) (r : Fin 128) :
    tpos n j (ix2 r 0) = BitVec.ofNat 32 (n % 8 * 512 + 128 * j.val + r.val) := by
  have e := (t0_eq ⟨n, hn⟩).1
  have e2 : tpos n j (ix2 r 0) = (t0 n + BitVec.ofNat 32 (128 * j.val)) + BitVec.ofNat 32 r.val := by
    pointwise [tpos]
    rfl
  rw [e2, e]
  apply BitVec.eq_of_toNat_eq
  simp [BitVec.toNat_add]

/-- The band of group `g`. -/
def bandOf (x : Vec Ideal S4x128x256 .bf16) (g : Fin 4) : FVec Ideal S1x128x256 .bf16 :=
  View.ld (Val := Elt Ideal) (e' := .bf16) x (Rect.unit (s := S4x128x256) ![g.val, 0, 0] S1x128x256.size fun a => by
    have hg := g.isLt
    match a with
    | ⟨0, _⟩ => show g.val + 1 ≤ 4; omega
    | ⟨1, _⟩ => show 0 + 128 ≤ 128; omega
    | ⟨2, _⟩ => show 0 + 256 ≤ 256; omega)

/-- The band at an entry. -/
theorem bandOf_apply (x : Vec Ideal S4x128x256 .bf16) (g : Fin 4) (r : Fin 128) (s : Fin 256) : bandOf x g (ix3 0 r s) = x (ix3 g r s) := by
  refine congrArg x (funext fun a => Fin.ext ?_)
  match a with
  | ⟨0, _⟩ => show g.val + 1 * 0 = g.val; omega
  | ⟨1, _⟩ => show 0 + 1 * r.val = r.val; omega
  | ⟨2, _⟩ => show 0 + 1 * s.val = s.val; omega

/-- The map of group `g`. -/
def mapOf (x : Vec Ideal S4x128x128 .bf16) (g : Fin 4) : FVec Ideal S1x128x128 .bf16 :=
  View.ld (Val := Elt Ideal) (e' := .bf16) x (Rect.unit (s := S4x128x128) ![g.val, 0, 0] S1x128x128.size fun a => by
    have hg := g.isLt
    match a with
    | ⟨0, _⟩ => show g.val + 1 ≤ 4; omega
    | ⟨1, _⟩ => show 0 + 128 ≤ 128; omega
    | ⟨2, _⟩ => show 0 + 128 ≤ 128; omega)

/-- The map at an entry. -/
theorem mapOf_apply (x : Vec Ideal S4x128x128 .bf16) (g : Fin 4) (c l : Fin 128) : mapOf x g (ix3 0 c l) = x (ix3 g c l) := by
  refine congrArg x (funext fun a => Fin.ext ?_)
  match a with
  | ⟨0, _⟩ => show g.val + 1 * 0 = g.val; omega
  | ⟨1, _⟩ => show 0 + 1 * c.val = c.val; omega
  | ⟨2, _⟩ => show 0 + 1 * l.val = l.val; omega

/-- The piece of row block `j` and group `g`. -/
def piece (i : grid0.Coords) (h : Vec Ideal S128x512 .bf16) (u : Vec Ideal S512x512 .bf16) (b : Vec Ideal S4x128x256 .bf16)
    (pw : Vec Ideal S4x128x128 .bf16) (j g : Fin 4) : FVec Ideal S128x128 .f32 :=
  sub (BitVec.ofNat 32 (2 ^ (g.val + 1))) (win (k0_pay2 i h u) j g) (tpos (i 0).val j) (bandOf b g) (mapOf pw g)

/-- The pooled branch's product from its pooled array. -/
def branch (z : FVec Ideal S512x512 .f32) (ps : Vec Ideal S1x512 .f32) (wb : Vec Ideal S512x1024 .bf16) : FVec Ideal S512x1024 .f32 :=
  matmul (φ₁ := .bf16) (φ₂ := .bf16) dot_S512x512_S512x1024_S512x1024_1_0_0_1_n_n none
    (truncf .bf16 (mulf z (broadcastTo S512x512 (shapeCast S1x512 ps shapeCasts_S1x512_S1x512) broadcasts_S1x512_S512x512)) bitsLt_bf16_f32)
    (shapeCast S512x1024 wb shapeCasts_S512x1024_S512x1024) (constant S512x1024 .f32 0x00000000#32)

set_option maxHeartbeats 2000000 in
/-- The pooled branch's product, as its sixteen pieces. -/
theorem pay53_eq (i : grid0.Coords) (x0 : Vec Ideal S512x1024 .f32) (x1 : Vec Ideal S512x512 .bf16) (x2 : Vec Ideal S512x512 .bf16) (x3 : Vec Ideal S512x512 .bf16) (x4 : Vec Ideal S128x512 .bf16) (x5 : Vec Ideal S512x3072 .bf16) (x6 : Vec Ideal S4x128x256 .bf16) (x7 : Vec Ideal S4x128x128 .bf16) (x8 : Vec Ideal S1x512 .f32) (x9 : Vec Ideal S512x1024 .bf16) (x10 : Vec Ideal S512x1024 .bf16) (x11 : Vec Ideal S512x1024 .bf16) (x12 : Vec Ideal S1024x1024 .bf16) (x13 : Vec Ideal S1x1024 .f32) :
    k0_pay53 i x0 x1 x2 x3 x4 x5 x6 x7 x8 x9 x10 x11 x12 x13
      = branch (tile (piece i (View.ld x4 r0_0) (View.ld x3 r0_1) x6 x7)) (View.ld x8 r0_10) (View.ld x10 r0_11) := rfl

end Cert.Kernel4Ideal.Mix
-- ==== Proof.MixBlock.lean ====
/-
  One row block of the token-mixing kernel: its sixteen pooled pieces are rows of the pooled array, and its last stage is the
  gated branches' sum through the output weights and the norm.
-/
module

public import proofs.«01_k».proof.Proof.Mix

@[expose] public section

noncomputable section

open Idealize.ShloMosaic Idealize.ShloMosaic.TcCoe
open scoped BigOperators

namespace Cert.Kernel4Ideal.Mix

open Cert.Kernel4Ideal Cert.Kernel4Ideal.Gen Cert.Layer

/-- The sixteen pieces of a row block are the pooled array's rows, the block's operands being their parts of the arrays. -/
theorem tile_pooled (i : grid0.Coords) (h : Vec Ideal S128x512 .bf16) (u : Vec Ideal S512x512 .bf16) (b : Vec Ideal S4x128x256 .bf16)
    (pw : Vec Ideal S4x128x128 .bf16) (x : S32768x512.Idx → EReal)
    (hu : ∀ (q : Fin 512) (c : Fin 512), u (ix2 q c) = x (ix2 ⟨(i 0).val * 512 + q.val, by have h : (i 0).val < 64 := (i 0).isLt; omega⟩ c))
    (hh : (i 0).val % 8 ≠ 0 → ∀ (q : Fin 128) (c : Fin 512), h (ix2 q c) = x (ix2 ⟨(i 0).val * 512 - 128 + q.val, by have h : (i 0).val < 64 := (i 0).isLt; omega⟩ c))
    (hb : ∀ (g : Fin 4) (r : Fin 128) (s : Fin 256), b (ix3 g r s) = if s.val ≤ r.val + 128 ∧ r.val + 128 < s.val + 2 ^ (g.val + 1) then (1 : EReal) else 0)
    (r k : Fin 512) : tile (piece i h u b pw) (ix2 r k) = pooled x pw ((i 0).val * 512 + r.val) k.val := by
  have hi : (i 0).val < 64 := (i 0).isLt
  refine tile_apply _ (fun r k => pooled x pw ((i 0).val * 512 + r) k) ?_ r k
  intro j g r l
  have hj := j.isLt
  have hg := g.isLt
  have hw : 2 ^ (g.val + 1) ≤ 16 := (Nat.pow_le_pow_right (by decide) (by omega : g.val + 1 ≤ 4)).trans (by decide)
  refine (sub_apply (2 ^ (g.val + 1)) ((i 0).val % 8 * 512 + 128 * j.val) hw (by omega)
    (fun c => seq x ((i 0).val / 8) (128 * g.val + c.val)) _ _ _ _ (fun r => tpos_apply _ hi j r)
    (fun r s => (bandOf_apply b g r s).trans (hb g r s)) ?_ r l).trans ?_
  · intro s c hs
    rw [win_apply _ j g s c ⟨128 * j.val + s.val, by omega⟩ ⟨128 * g.val + c.val, by omega⟩ rfl rfl, pay2_apply]
    dsimp only
    by_cases hq : 128 * j.val + s.val < 128
    · rw [dif_pos hq]
      by_cases h8 : (i 0).val % 8 = 0
      · rw [if_pos h8, if_neg (by omega)]
      · rw [if_neg h8, if_pos (by omega), hh h8]
        unfold seq
        congr 1
        funext a
        apply Fin.ext
        match a with
        | ⟨0, _⟩ => show (i 0).val * 512 - 128 + (128 * j.val + s.val) = ((i 0).val / 8 * 4096 + ((i 0).val % 8 * 512 + 128 * j.val + s.val - 128)) % 32768; omega
        | ⟨1, _⟩ => show 128 * g.val + c.val = (128 * g.val + c.val) % 512; omega
    · rw [dif_neg hq, if_pos (by omega), hu]
      unfold seq
      congr 1
      funext a
      apply Fin.ext
      match a with
      | ⟨0, _⟩ => show (i 0).val * 512 + (128 * j.val + s.val - 128) = ((i 0).val / 8 * 4096 + ((i 0).val % 8 * 512 + 128 * j.val + s.val - 128)) % 32768; omega
      | ⟨1, _⟩ => show 128 * g.val + c.val = (128 * g.val + c.val) % 512; omega
  · unfold pooled
    refine Finset.sum_congr rfl fun c _ => ?_
    rw [mapOf_apply]
    have e1 : ((i 0).val * 512 + (128 * j.val + r.val)) / 4096 = (i 0).val / 8 := by omega
    have e2 : ((i 0).val * 512 + (128 * j.val + r.val)) % 4096 = (i 0).val % 8 * 512 + 128 * j.val + r.val := by omega
    have e3 : (128 * g.val + l.val) / 128 = g.val := by omega
    have e4 : (⟨(128 * g.val + l.val) / 128 % 4, Nat.mod_lt _ (by decide)⟩ : Fin 4) = g := Fin.ext (by show (128 * g.val + l.val) / 128 % 4 = g.val; omega)
    have e5 : (⟨(128 * g.val + l.val) % 128, Nat.mod_lt _ (by decide)⟩ : Fin 128) = l := Fin.ext (by show (128 * g.val + l.val) % 128 = l.val; omega)
    rw [e1, e2, e4, e5, e3]

/-- The pooled branch's product at an entry. -/
theorem branch_apply (z : FVec Ideal S512x512 .f32) (ps : Vec Ideal S1x512 .f32) (wb : Vec Ideal S512x1024 .bf16) (r : Fin 512) (l : Fin 1024) :
    branch z ps wb (ix2 r l) = ∑ k : Fin 512, (z (ix2 r k) * ps (ix2 0 k)) * wb (ix2 k l) := by
  pointwise [branch]

/-- The gated branches' sum through the output weights, at an entry. -/
theorem pay39_apply (pa pb pc ga : FVec Ideal S512x1024 .f32) (gb gc : Vec Ideal S512x1024 .bf16) (wo : Vec Ideal S1024x1024 .bf16) (r : Fin 512) (l : Fin 1024) :
    k0_pay39 (F := Ideal) pa pb pc ga gb gc wo (ix2 r l)
      = ∑ k : Fin 1024, (gate (ga (ix2 r k)) * pa (ix2 r k) + gate (gb (ix2 r k)) * pb (ix2 r k) + gate (gc (ix2 r k)) * pc (ix2 r k)) * wo (ix2 k l) := by
  pointwise [k0_pay39]
  simp only [zero_sub]
  rfl

/-- What the body stores, at an entry: residual plus the norm of the row. -/
theorem pay1_apply (pa pb pc ga : FVec Ideal S512x1024 .f32) (gb gc : Vec Ideal S512x1024 .bf16) (wo : Vec Ideal S1024x1024 .bf16)
    (x : Vec Ideal S512x1024 .f32) (nw : Vec Ideal S1x1024 .f32) (r : Fin 512) (l : Fin 1024) :
    k0_pay1 (F := Ideal) (k0_pay39 (F := Ideal) pa pb pc ga gb gc wo) x (k0_pay40 (F := Ideal) nw) (k0_pay41 (F := Ideal) pa pb pc ga gb gc wo) (ix2 r l)
      = mixer (Ideal.ofBits .f32 0x44800000#32) (fun k => x (ix2 r k))
          (fun k => gate (ga (ix2 r k)) * pa (ix2 r k) + gate (gb (ix2 r k)) * pb (ix2 r k) + gate (gc (ix2 r k)) * pc (ix2 r k))
          (fun k l => wo (ix2 k l)) (fun k => nw (ix2 0 k)) l := by
  have h := pay39_apply pa pb pc ga gb gc wo r
  unfold k0_pay41
  generalize k0_pay39 (F := Ideal) pa pb pc ga gb gc wo = z at h
  pointwise [k0_pay1, k0_pay40]
  simp only [h]
  rfl

end Cert.Kernel4Ideal.Mix
-- ==== Proof.BandTree.lean ====
/-
  The band table of the pooling kernel: entry `(g, r, s)` of its constant is one when column `s` lies among the
  `2^(g+1)` last columns up to `r + 128`, else none. The constant is printed as a tree of case distinctions by
  digits; it is first shown to be the same tree over a closed form, and the tree is then evaluated once for all.
-/
module

public import proofs.«01_k».proof.Kernel4Ideal

@[expose] public section

namespace Cert.Kernel4Ideal.Band

open Cert.Kernel4Ideal

/-- The table's entry `n`: one within the band, else none. -/
def want (n : Nat) : BitVec 16 :=
  cond (Nat.ble (n % 256) (n / 256 % 128 + 128) && Nat.blt (n / 256 % 128 + 128) (n % 256 + 2 ^ (n / 32768 + 1))) 0x3F80#16 0x0000#16

/-- `a x` for `x` below `N`, found by trying each in turn. -/
def tryEach {α : Type} (a : Nat → α) (d : α) (N x : Nat) : α :=
  Nat.rec (motive := fun _ => α) d (fun k ih => dite (x = N - 1 - k) (fun h => Eq.ndrec_symm (motive := fun _ => α) (a (N - 1 - k)) h) (fun _ => ih)) N

set_option maxHeartbeats 40000000 in
set_option smartUnfolding false in
/-- The printed tree over the closed form. -/
theorem tree : lit0t = fun i => tryEach (fun q => tryEach (fun k => tryEach (fun n => want (q * 16384 + k * 128 + n)) 0x0000#16 128 (i % 128)) 0x0000#16 128 (i / 128 % 128)) 0x0000#16 8 (i / 16384) := by
  rfl

end Cert.Kernel4Ideal.Band
-- ==== Proof.Band.lean ====
/-
  The band table read through its closed form: entry `(g, r, s)` is one when column `s` lies among the `2^(g+1)` last columns
  up to `r + 128`, else none.
-/
module

public import proofs.«01_k».proof.Proof.BandTree

@[expose] public section

namespace Cert.Kernel4Ideal.Band

open Cert.Kernel4Ideal

/-- Trying the last `f` places finds `a x` when `x` is among them. -/
theorem tryEach_from {α : Type} (a : Nat → α) (d : α) (N x : Nat) : ∀ f : Nat, f ≤ N →
    Nat.rec (motive := fun _ => α) d (fun k ih => dite (x = N - 1 - k) (fun h => Eq.ndrec_symm (motive := fun _ => α) (a (N - 1 - k)) h) (fun _ => ih)) f
      = if N - f ≤ x ∧ x < N then a x else d := by
  intro f
  induction f with
  | zero => intro _; exact (if_neg (by omega)).symm
  | succ k ih =>
    intro hk
    by_cases h : x = N - 1 - k
    · rw [if_pos (by omega)]
      subst h
      simp only [dite_true]
    · simp only [h, dite_false]
      rw [ih (by omega)]
      by_cases h2 : N - k ≤ x ∧ x < N
      · rw [if_pos h2, if_pos (by omega)]
      · rw [if_neg h2, if_neg (by omega)]

/-- Trying each finds `a x`. -/
theorem tryEach_eq {α : Type} (a : Nat → α) (d : α) (N x : Nat) (h : x < N) : tryEach a d N x = a x := by
  unfold tryEach
  rw [tryEach_from a d N x N le_rfl, if_pos (by omega)]

/-- The table's entries. -/
theorem lit0_eq (i : Fin 131072) : lit0 i = want i.val := by
  have hi := i.isLt
  show lit0t i.val = _
  rw [tree]
  dsimp only
  rw [tryEach_eq _ _ _ _ (by omega), tryEach_eq _ _ _ _ (by omega), tryEach_eq _ _ _ _ (by omega)]
  congr 1
  omega

/-- The closed form in three indices. -/
theorem want_eq (g r s : Nat) (hr : r < 128) (hs : s < 256) :
    want (g * 32768 + r * 256 + s) = if s ≤ r + 128 ∧ r + 128 < s + 2 ^ (g + 1) then 0x3F80#16 else 0x0000#16 := by
  have e1 : (g * 32768 + r * 256 + s) % 256 = s := by omega
  have e2 : (g * 32768 + r * 256 + s) / 256 % 128 = r := by omega
  have e3 : (g * 32768 + r * 256 + s) / 32768 = g := by omega
  unfold want
  rw [e1, e2, e3, cond_eq_ite]
  refine if_congr ?_ rfl rfl
  rw [Bool.and_eq_true, Nat.ble_eq, Nat.blt_eq]

end Cert.Kernel4Ideal.Band
-- ==== Proof.MixKernel.lean ====
/-
  The token-mixing kernel's run: what each block reads, the block its body writes, and the result array after all 64 points.
-/
module

public import proofs.«01_k».proof.Proof.MixBlock
public import proofs.«01_k».proof.Proof.Band
public import proofs.«01_k».proof.Proof.Gen.Kernel4Ideal.Value

@[expose] public section

noncomputable section

open Idealize.ShloMosaic Idealize.ShloMosaic.TcCoe
open scoped BigOperators

namespace Cert.Kernel4Ideal.Mix

open Cert.Kernel4Ideal Cert.Kernel4Ideal.Gen Cert.Layer

variable (m : (ℓ : Loc nD τ sig) → Buf (Elt Ideal) ℓ)

/-- Entry `(i, l)` of the sublayer, from the arguments device `c` was launched with. -/
abbrev out (c : Dev nD) : Buf (Elt Ideal) ((c : Thread nD τ).loc main_v7) := fun i : S32768x1024.Idx =>
  mixed (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11)) (i 0) (i 1)

/-- The groups' maps as the region finds them: the argument's, narrowed. -/
theorem V_v0 (c : Dev nD) : (V m c main_v0 : FVec Ideal S4x128x128 .bf16) = (m ((c : Thread nD τ).loc main_arg5) : S4x128x128.Idx → EReal) := by
  show StableHlo.after hostOps0 _ (Proc.devRef .tc main_v0) = _
  after_results
  rfl

/-- The weights of branch A. -/
theorem V_v1 (c : Dev nD) : (V m c main_v1 : FVec Ideal S512x1024 .bf16) = (m ((c : Thread nD τ).loc main_arg7) : S512x1024.Idx → EReal) := by
  show StableHlo.after hostOps0 _ (Proc.devRef .tc main_v1) = _
  after_results
  rfl

/-- The weights of branch B. -/
theorem V_v2 (c : Dev nD) : (V m c main_v2 : FVec Ideal S512x1024 .bf16) = (m ((c : Thread nD τ).loc main_arg8) : S512x1024.Idx → EReal) := by
  show StableHlo.after hostOps0 _ (Proc.devRef .tc main_v2) = _
  after_results
  rfl

/-- The weights of branch C. -/
theorem V_v3 (c : Dev nD) : (V m c main_v3 : FVec Ideal S512x1024 .bf16) = (m ((c : Thread nD τ).loc main_arg9) : S512x1024.Idx → EReal) := by
  show StableHlo.after hostOps0 _ (Proc.devRef .tc main_v3) = _
  after_results
  rfl

/-- The output weights. -/
theorem V_v4 (c : Dev nD) : (V m c main_v4 : FVec Ideal S1024x1024 .bf16) = (m ((c : Thread nD τ).loc main_arg10) : S1024x1024.Idx → EReal) := by
  show StableHlo.after hostOps0 _ (Proc.devRef .tc main_v4) = _
  after_results
  rfl

/-- The pooled channels' scales, as one row. -/
theorem V_v5 (c : Dev nD) (k : Fin 512) : (V m c main_v5 : FVec Ideal S1x512 .f32) (ix2 0 k) = m ((c : Thread nD τ).loc main_arg6) (ix1 k) := by
  have e : (V m c main_v5 : FVec Ideal S1x512 .f32) = shapeCast S1x512 (m ((c : Thread nD τ).loc main_arg6) : FVec Ideal S512 .f32) shapeCasts_S512_S1x512 := by
    show StableHlo.after hostOps0 _ (Proc.devRef .tc main_v5) = _
    after_results
    rfl
  rw [e]
  pointwise

/-- The norm's weights, as one row. -/
theorem V_v6 (c : Dev nD) (k : Fin 1024) : (V m c main_v6 : FVec Ideal S1x1024 .f32) (ix2 0 k) = m ((c : Thread nD τ).loc main_arg11) (ix1 k) := by
  have e : (V m c main_v6 : FVec Ideal S1x1024 .f32) = shapeCast S1x1024 (m ((c : Thread nD τ).loc main_arg11) : FVec Ideal S1024 .f32) shapeCasts_S1024_S1x1024 := by
    show StableHlo.after hostOps0 _ (Proc.devRef .tc main_v6) = _
    after_results
    rfl
  rw [e]
  pointwise

/-- The bands as the region finds them: ones within each group's window. -/
theorem V_band (c : Dev nD) (g : Fin 4) (r : Fin 128) (s : Fin 256) :
    (V m c main_cst : FVec Ideal S4x128x256 .bf16) (ix3 g r s) = if s.val ≤ r.val + 128 ∧ r.val + 128 < s.val + 2 ^ (g.val + 1) then (1 : EReal) else 0 := by
  have e : (V m c main_cst : FVec Ideal S4x128x256 .bf16) = fun i => Ideal.ofBits .bf16 (lit0 (S4x128x256.rowMajor i)) := by
    show StableHlo.after hostOps0 _ (Proc.devRef .tc main_cst) = _
    after_results
    rfl
  rw [e]
  refine (congrArg (Ideal.ofBits .bf16) (Band.lit0_eq (S4x128x256.rowMajor (ix3 g r s)))).trans ?_
  have e2 : (S4x128x256.rowMajor (ix3 g r s)).val = g.val * 32768 + r.val * 256 + s.val := by
    rw [Shape.rowMajor_val_three]
    show (g.val * 128 + r.val) * 256 + s.val = _
    omega
  rw [e2, Band.want_eq _ _ _ r.isLt s.isLt]
  split
  · norm_num
  · norm_num

/-- The blocks that follow the grid point. -/
theorem index_facts : ∀ t : Fin cfg0.N, win0_0.index t = ![t.val, 0] ∧ win0_1.index t = ![t.val, 0] ∧ win0_2.index t = ![t.val, 0] ∧ win0_3.index t = ![t.val, 0]
    ∧ win0_4.index t = ![4 * t.val - 1, 0] ∧ win0_5.index t = ![t.val, 0] ∧ win0_14.index t = ![t.val, 0] ∧ (grid0.coords t 0).val = t.val :=
  (by decide +kernel : ∀ t : Fin grid0.N, _)

/-- The blocks that are whole arrays at every point. -/
theorem index_fixed : ∀ t : Fin cfg0.N, win0_6.index t = ![0, 0, 0] ∧ win0_7.index t = ![0, 0, 0] ∧ win0_8.index t = ![0, 0] ∧ win0_9.index t = ![0, 0]
    ∧ win0_10.index t = ![0, 0] ∧ win0_11.index t = ![0, 0] ∧ win0_12.index t = ![0, 0] ∧ win0_13.index t = ![0, 0] :=
  (by decide +kernel : ∀ t : Fin grid0.N, _)

/-- Rows of the residual. -/
theorem blk0 (c : Dev nD) (t : Fin cfg0.N) (r : Fin 512) (k : Fin 1024) (R : Fin 32768) (hR : R.val = t.val * 512 + r.val) :
    (iblk m c 0 t : FVec Ideal S512x1024 .f32) (ix2 r k) = m ((c : Thread nD τ).loc main_arg0) (ix2 R k) := by
  have h0 := congrFun (index_facts t).1 0
  have h1 := congrFun (index_facts t).1 1
  show V m c main_arg0 (((cfg0.win 0).blk t).view.emb _) = _
  rw [V_main_arg0]
  refine congrArg _ (funext fun a => Fin.ext ?_)
  match a with
  | ⟨0, _⟩ => show win0_0.index t 0 * 512 + 1 * r.val = R.val; rw [h0, hR]; simp
  | ⟨1, _⟩ => show win0_0.index t 1 * 1024 + 1 * k.val = k.val; rw [h1]; simp

/-- Rows of branch A. -/
theorem blk1 (c : Dev nD) (t : Fin cfg0.N) (r : Fin 512) (k : Fin 512) (R : Fin 32768) (hR : R.val = t.val * 512 + r.val) :
    (iblk m c 1 t : FVec Ideal S512x512 .bf16) (ix2 r k) = m ((c : Thread nD τ).loc main_arg1) (ix2 R k) := by
  have h0 := congrFun (index_facts t).2.1 0
  have h1 := congrFun (index_facts t).2.1 1
  show V m c main_arg1 (((cfg0.win 1).blk t).view.emb _) = _
  rw [V_main_arg1]
  refine congrArg _ (funext fun a => Fin.ext ?_)
  match a with
  | ⟨0, _⟩ => show win0_1.index t 0 * 512 + 1 * r.val = R.val; rw [h0, hR]; simp
  | ⟨1, _⟩ => show win0_1.index t 1 * 512 + 1 * k.val = k.val; rw [h1]; simp

/-- Rows of branch C. -/
theorem blk2 (c : Dev nD) (t : Fin cfg0.N) (r : Fin 512) (k : Fin 512) (R : Fin 32768) (hR : R.val = t.val * 512 + r.val) :
    (iblk m c 2 t : FVec Ideal S512x512 .bf16) (ix2 r k) = m ((c : Thread nD τ).loc main_arg2) (ix2 R k) := by
  have h0 := congrFun (index_facts t).2.2.1 0
  have h1 := congrFun (index_facts t).2.2.1 1
  show V m c main_arg2 (((cfg0.win 2).blk t).view.emb _) = _
  rw [V_main_arg2]
  refine congrArg _ (funext fun a => Fin.ext ?_)
  match a with
  | ⟨0, _⟩ => show win0_2.index t 0 * 512 + 1 * r.val = R.val; rw [h0, hR]; simp
  | ⟨1, _⟩ => show win0_2.index t 1 * 512 + 1 * k.val = k.val; rw [h1]; simp

/-- Rows of the pooled activations. -/
theorem blk3 (c : Dev nD) (t : Fin cfg0.N) (r : Fin 512) (k : Fin 512) (R : Fin 32768) (hR : R.val = t.val * 512 + r.val) :
    (iblk m c 3 t : FVec Ideal S512x512 .bf16) (ix2 r k) = m ((c : Thread nD τ).loc main_arg3) (ix2 R k) := by
  have h0 := congrFun (index_facts t).2.2.2.1 0
  have h1 := congrFun (index_facts t).2.2.2.1 1
  show V m c main_arg3 (((cfg0.win 3).blk t).view.emb _) = _
  rw [V_main_arg3]
  refine congrArg _ (funext fun a => Fin.ext ?_)
  match a with
  | ⟨0, _⟩ => show win0_3.index t 0 * 512 + 1 * r.val = R.val; rw [h0, hR]; simp
  | ⟨1, _⟩ => show win0_3.index t 1 * 512 + 1 * k.val = k.val; rw [h1]; simp

/-- Rows of the gates. -/
theorem blk5 (c : Dev nD) (t : Fin cfg0.N) (r : Fin 512) (k : Fin 3072) (R : Fin 32768) (hR : R.val = t.val * 512 + r.val) :
    (iblk m c 5 t : FVec Ideal S512x3072 .bf16) (ix2 r k) = m ((c : Thread nD τ).loc main_arg4) (ix2 R k) := by
  have h0 := congrFun (index_facts t).2.2.2.2.2.1 0
  have h1 := congrFun (index_facts t).2.2.2.2.2.1 1
  show V m c main_arg4 (((cfg0.win 5).blk t).view.emb _) = _
  rw [V_main_arg4]
  refine congrArg _ (funext fun a => Fin.ext ?_)
  match a with
  | ⟨0, _⟩ => show win0_5.index t 0 * 512 + 1 * r.val = R.val; rw [h0, hR]; simp
  | ⟨1, _⟩ => show win0_5.index t 1 * 3072 + 1 * k.val = k.val; rw [h1]; simp

/-- The rows before the block. -/
theorem blk4 (c : Dev nD) (t : Fin cfg0.N) (r : Fin 128) (k : Fin 512) (R : Fin 32768) (hR : R.val = (4 * t.val - 1) * 128 + r.val) :
    (iblk m c 4 t : FVec Ideal S128x512 .bf16) (ix2 r k) = m ((c : Thread nD τ).loc main_arg3) (ix2 R k) := by
  have h0 := congrFun (index_facts t).2.2.2.2.1 0
  have h1 := congrFun (index_facts t).2.2.2.2.1 1
  show V m c main_arg3 (((cfg0.win 4).blk t).view.emb _) = _
  rw [V_main_arg3]
  refine congrArg _ (funext fun a => Fin.ext ?_)
  match a with
  | ⟨0, _⟩ => show win0_4.index t 0 * 128 + 1 * r.val = R.val; rw [h0, hR]; simp
  | ⟨1, _⟩ => show win0_4.index t 1 * 512 + 1 * k.val = k.val; rw [h1]; simp

/-- The bands, whole at every point. -/
theorem blk6 (c : Dev nD) (t : Fin cfg0.N) : (iblk m c 6 t : FVec Ideal S4x128x256 .bf16) = V m c main_cst := by
  have h0 := congrFun (index_fixed t).1 0
  have h1 := congrFun (index_fixed t).1 1
  have h2 := congrFun (index_fixed t).1 2
  funext y
  show V m c main_cst (((cfg0.win 6).blk t).view.emb _) = _
  refine congrArg _ (funext fun a => Fin.ext ?_)
  match a with
  | ⟨0, _⟩ => show win0_6.index t 0 * 4 + 1 * (y 0).val = (y 0).val; rw [h0]; simp
  | ⟨1, _⟩ => show win0_6.index t 1 * 128 + 1 * (y 1).val = (y 1).val; rw [h1]; simp
  | ⟨2, _⟩ => show win0_6.index t 2 * 256 + 1 * (y 2).val = (y 2).val; rw [h2]; simp

/-- The groups' maps, whole at every point. -/
theorem blk7 (c : Dev nD) (t : Fin cfg0.N) : (iblk m c 7 t : FVec Ideal S4x128x128 .bf16) = V m c main_v0 := by
  have h0 := congrFun (index_fixed t).2.1 0
  have h1 := congrFun (index_fixed t).2.1 1
  have h2 := congrFun (index_fixed t).2.1 2
  funext y
  show V m c main_v0 (((cfg0.win 7).blk t).view.emb _) = _
  refine congrArg _ (funext fun a => Fin.ext ?_)
  match a with
  | ⟨0, _⟩ => show win0_7.index t 0 * 4 + 1 * (y 0).val = (y 0).val; rw [h0]; simp
  | ⟨1, _⟩ => show win0_7.index t 1 * 128 + 1 * (y 1).val = (y 1).val; rw [h1]; simp
  | ⟨2, _⟩ => show win0_7.index t 2 * 128 + 1 * (y 2).val = (y 2).val; rw [h2]; simp

/-- The scales. -/
theorem blk8 (c : Dev nD) (t : Fin cfg0.N) : (iblk m c 8 t : FVec Ideal S1x512 .f32) = V m c main_v5 := by
  have h0 := congrFun (index_fixed t).2.2.1 0
  have h1 := congrFun (index_fixed t).2.2.1 1
  funext y
  show V m c main_v5 (((cfg0.win 8).blk t).view.emb _) = _
  refine congrArg _ (funext fun a => Fin.ext ?_)
  match a with
  | ⟨0, _⟩ => show win0_8.index t 0 * 1 + 1 * (y 0).val = (y 0).val; rw [h0]; simp
  | ⟨1, _⟩ => show win0_8.index t 1 * 512 + 1 * (y 1).val = (y 1).val; rw [h1]; simp

/-- The weights of branch A. -/
theorem blk9 (c : Dev nD) (t : Fin cfg0.N) : (iblk m c 9 t : FVec Ideal S512x1024 .bf16) = V m c main_v1 := by
  have h0 := congrFun (index_fixed t).2.2.2.1 0
  have h1 := congrFun (index_fixed t).2.2.2.1 1
  funext y
  show V m c main_v1 (((cfg0.win 9).blk t).view.emb _) = _
  refine congrArg _ (funext fun a => Fin.ext ?_)
  match a with
  | ⟨0, _⟩ => show win0_9.index t 0 * 512 + 1 * (y 0).val = (y 0).val; rw [h0]; simp
  | ⟨1, _⟩ => show win0_9.index t 1 * 1024 + 1 * (y 1).val = (y 1).val; rw [h1]; simp

/-- The weights of branch B. -/
theorem blk10 (c : Dev nD) (t : Fin cfg0.N) : (iblk m c 10 t : FVec Ideal S512x1024 .bf16) = V m c main_v2 := by
  have h0 := congrFun (index_fixed t).2.2.2.2.1 0
  have h1 := congrFun (index_fixed t).2.2.2.2.1 1
  funext y
  show V m c main_v2 (((cfg0.win 10).blk t).view.emb _) = _
  refine congrArg _ (funext fun a => Fin.ext ?_)
  match a with
  | ⟨0, _⟩ => show win0_10.index t 0 * 512 + 1 * (y 0).val = (y 0).val; rw [h0]; simp
  | ⟨1, _⟩ => show win0_10.index t 1 * 1024 + 1 * (y 1).val = (y 1).val; rw [h1]; simp

/-- The weights of branch C. -/
theorem blk11 (c : Dev nD) (t : Fin cfg0.N) : (iblk m c 11 t : FVec Ideal S512x1024 .bf16) = V m c main_v3 := by
  have h0 := congrFun (index_fixed t).2.2.2.2.2.1 0
  have h1 := congrFun (index_fixed t).2.2.2.2.2.1 1
  funext y
  show V m c main_v3 (((cfg0.win 11).blk t).view.emb _) = _
  refine congrArg _ (funext fun a => Fin.ext ?_)
  match a with
  | ⟨0, _⟩ => show win0_11.index t 0 * 512 + 1 * (y 0).val = (y 0).val; rw [h0]; simp
  | ⟨1, _⟩ => show win0_11.index t 1 * 1024 + 1 * (y 1).val = (y 1).val; rw [h1]; simp

/-- The output weights. -/
theorem blk12 (c : Dev nD) (t : Fin cfg0.N) : (iblk m c 12 t : FVec Ideal S1024x1024 .bf16) = V m c main_v4 := by
  have h0 := congrFun (index_fixed t).2.2.2.2.2.2.1 0
  have h1 := congrFun (index_fixed t).2.2.2.2.2.2.1 1
  funext y
  show V m c main_v4 (((cfg0.win 12).blk t).view.emb _) = _
  refine congrArg _ (funext fun a => Fin.ext ?_)
  match a with
  | ⟨0, _⟩ => show win0_12.index t 0 * 1024 + 1 * (y 0).val = (y 0).val; rw [h0]; simp
  | ⟨1, _⟩ => show win0_12.index t 1 * 1024 + 1 * (y 1).val = (y 1).val; rw [h1]; simp

/-- The norm's weights. -/
theorem blk13 (c : Dev nD) (t : Fin cfg0.N) : (iblk m c 13 t : FVec Ideal S1x1024 .f32) = V m c main_v6 := by
  have h0 := congrFun (index_fixed t).2.2.2.2.2.2.2 0
  have h1 := congrFun (index_fixed t).2.2.2.2.2.2.2 1
  funext y
  show V m c main_v6 (((cfg0.win 13).blk t).view.emb _) = _
  refine congrArg _ (funext fun a => Fin.ext ?_)
  match a with
  | ⟨0, _⟩ => show win0_13.index t 0 * 1 + 1 * (y 0).val = (y 0).val; rw [h0]; simp
  | ⟨1, _⟩ => show win0_13.index t 1 * 1024 + 1 * (y 1).val = (y 1).val; rw [h1]; simp

/-- Branch A's product at an entry. -/
theorem pay35_apply (x : Vec Ideal S512x512 .bf16) (w : Vec Ideal S512x1024 .bf16) (r : Fin 512) (l : Fin 1024) :
    k0_pay35 (F := Ideal) x w (ix2 r l) = ∑ k : Fin 512, x (ix2 r k) * w (ix2 k l) := by
  pointwise [k0_pay35]

/-- Branch C's product at an entry. -/
theorem pay37_apply (x : Vec Ideal S512x512 .bf16) (w : Vec Ideal S512x1024 .bf16) (r : Fin 512) (l : Fin 1024) :
    k0_pay37 (F := Ideal) x w (ix2 r l) = ∑ k : Fin 512, x (ix2 r k) * w (ix2 k l) := by
  pointwise [k0_pay37]

/-- The first gate's columns. -/
theorem gate_a (x : Vec Ideal S512x3072 .bf16) (r : Fin 512) (k : Fin 1024) :
    k0_pay38 (F := Ideal) (View.ld x r0_12) (ix2 r k) = x (ix2 r ⟨k.val, by omega⟩) := by
  refine congrArg x (funext fun a => Fin.ext ?_)
  match a with
  | ⟨0, _⟩ => show 0 + 1 * r.val = r.val; omega
  | ⟨1, _⟩ => show 0 + 1 * k.val = k.val; omega

/-- The second gate's columns. -/
theorem gate_b (x : Vec Ideal S512x3072 .bf16) (r : Fin 512) (k : Fin 1024) :
    (View.ld x r0_13 : Vec Ideal S512x1024 .bf16) (ix2 r k) = x (ix2 r ⟨1024 + k.val, by omega⟩) := by
  refine congrArg x (funext fun a => Fin.ext ?_)
  match a with
  | ⟨0, _⟩ => show 0 + 1 * r.val = r.val; omega
  | ⟨1, _⟩ => show 1024 + 1 * k.val = 1024 + k.val; omega

/-- The third gate's columns. -/
theorem gate_c (x : Vec Ideal S512x3072 .bf16) (r : Fin 512) (k : Fin 1024) :
    (View.ld x r0_14 : Vec Ideal S512x1024 .bf16) (ix2 r k) = x (ix2 r ⟨2048 + k.val, by omega⟩) := by
  refine congrArg x (funext fun a => Fin.ext ?_)
  match a with
  | ⟨0, _⟩ => show 0 + 1 * r.val = r.val; omega
  | ⟨1, _⟩ => show 2048 + 1 * k.val = 2048 + k.val; omega

/-- One block of the result at an entry, from the blocks the body loads. -/
theorem body_apply (i : grid0.Coords) (x0 : Vec Ideal S512x1024 .f32) (x1 : Vec Ideal S512x512 .bf16) (x2 : Vec Ideal S512x512 .bf16) (x3 : Vec Ideal S512x512 .bf16) (x4 : Vec Ideal S128x512 .bf16) (x5 : Vec Ideal S512x3072 .bf16) (x6 : Vec Ideal S4x128x256 .bf16) (x7 : Vec Ideal S4x128x128 .bf16) (x8 : Vec Ideal S1x512 .f32) (x9 : Vec Ideal S512x1024 .bf16) (x10 : Vec Ideal S512x1024 .bf16) (x11 : Vec Ideal S512x1024 .bf16) (x12 : Vec Ideal S1024x1024 .bf16) (x13 : Vec Ideal S1x1024 .f32)
    (r : Fin 512) (l : Fin 1024) :
    out0_14 i x0 x1 x2 x3 x4 x5 x6 x7 x8 x9 x10 x11 x12 x13 (ix2 r l)
      = mixer (Ideal.ofBits .f32 0x44800000#32) (fun k => x0 (ix2 r k))
        (branches (fun k => x5 (ix2 r ⟨k.val, by omega⟩)) (fun k => x5 (ix2 r ⟨1024 + k.val, by omega⟩)) (fun k => x5 (ix2 r ⟨2048 + k.val, by omega⟩))
          (fun j => x1 (ix2 r j)) (fun j => tile (piece i x4 x3 x6 x7) (ix2 r j) * x8 (ix2 0 j)) (fun j => x2 (ix2 r j))
          (fun j k => x9 (ix2 j k)) (fun j k => x10 (ix2 j k)) (fun j k => x11 (ix2 j k)))
        (fun k l => x12 (ix2 k l)) (fun k => x13 (ix2 0 k)) l := by
  have hz : (![0, 0] : Fin 2 → Nat) = fun _ => 0 := funext fun a => by fin_cases a <;> rfl
  unfold out0_14 k0_pay52 k0_pay54 k0_pay55
  rw [View.canon_unit_zero hz, pay53_eq]
  refine (pay1_apply _ _ _ _ _ _ _ _ _ r l).trans ?_
  unfold branches
  have e0 : (View.ld x0 r0_11 : Vec Ideal S512x1024 .f32) = x0 := View.ld_unit_zero hz _ _
  have e1 : (View.ld x1 r0_1 : Vec Ideal S512x512 .bf16) = x1 := View.ld_unit_zero hz _ _
  have e2 : (View.ld x2 r0_1 : Vec Ideal S512x512 .bf16) = x2 := View.ld_unit_zero hz _ _
  have e3 : (View.ld x3 r0_1 : Vec Ideal S512x512 .bf16) = x3 := View.ld_unit_zero hz _ _
  have e4 : (View.ld x4 r0_0 : Vec Ideal S128x512 .bf16) = x4 := View.ld_unit_zero hz _ _
  have e8 : (View.ld x8 r0_10 : Vec Ideal S1x512 .f32) = x8 := View.ld_unit_zero hz _ _
  have e9 : (View.ld x9 r0_11 : Vec Ideal S512x1024 .bf16) = x9 := View.ld_unit_zero hz _ _
  have e10 : (View.ld x10 r0_11 : Vec Ideal S512x1024 .bf16) = x10 := View.ld_unit_zero hz _ _
  have e11 : (View.ld x11 r0_11 : Vec Ideal S512x1024 .bf16) = x11 := View.ld_unit_zero hz _ _
  have e12 : (View.ld x12 r0_15 : Vec Ideal S1024x1024 .bf16) = x12 := View.ld_unit_zero hz _ _
  have e13 : (View.ld x13 r0_16 : Vec Ideal S1x1024 .f32) = x13 := View.ld_unit_zero hz _ _
  rw [e0, e1, e2, e3, e4, e8, e9, e10, e11, e12, e13]
  refine congrArg (fun f => mixer (Ideal.ofBits .f32 0x44800000#32) (fun k => x0 (ix2 r k)) f (fun k l => x12 (ix2 k l)) (fun k => x13 (ix2 0 k)) l) (funext fun k => ?_)
  exact congrArg₂ (· + ·) (congrArg₂ (· + ·) (congrArg₂ (· * ·) (congrArg gate (gate_a x5 r k)) (pay35_apply x1 x9 r k))
    (congrArg₂ (· * ·) (congrArg gate (gate_b x5 r k)) (branch_apply (tile (piece i x4 x3 x6 x7)) x8 x10 r k)))
    (congrArg₂ (· * ·) (congrArg gate (gate_c x5 r k)) (pay37_apply x2 x11 r k))

/-- Equal branches and weights give the same row of the sublayer. -/
theorem mixer_congr {N : EReal} {x b b' : Fin 1024 → EReal} {wo wo' : Fin 1024 → Fin 1024 → EReal} {nw nw' : Fin 1024 → EReal} {l : Fin 1024}
    (hb : b = b') (ho : wo = wo') (hn : nw = nw') : mixer N x b wo nw l = mixer N x b' wo' nw' l := by
  subst hb ho hn; rfl

/-- Equal pooled rows and weights give the same branches. -/
theorem branches_congr {ga gb gc : Fin 1024 → EReal} {oa y y' oc : Fin 512 → EReal} {wa wa' wb wb' wc wc' : Fin 512 → Fin 1024 → EReal}
    (hy : y = y') (ha : wa = wa') (hb : wb = wb') (hc : wc = wc') : branches ga gb gc oa y oc wa wb wc = branches ga gb gc oa y' oc wa' wb' wc' := by
  subst hy ha hb hc; rfl

/-- What point `t` writes back is block `t` of the sublayer. -/
theorem flushed_eq (c : Dev nD) (t : Fin cfg0.N) :
    (dats m 0 c).flushed 14 t = ((cfg0.win 14).blk t).view.read (Elt Ideal) (out m c) := by
  rw [Value.flushed14]
  obtain ⟨-, -, -, -, -, -, e14, et⟩ := index_facts t
  have h14 := congrFun e14 0
  have h14' := congrFun e14 1
  have hN : cfg0.N = 64 := N_0
  funext y
  have hy0 : (y 0).val < 512 := (y 0).isLt
  have hy1 : (y 1).val < 1024 := (y 1).isLt
  have ht := t.isLt
  show out0_14 _ _ _ _ _ _ _ _ _ _ _ _ _ _ _ ((cfg0.win 14).xinj (grid0.coords t) y) = out m c (((cfg0.win 14).blk t).view.emb y)
  have ey : (cfg0.win 14).xinj (grid0.coords t) y = (ix2 ⟨(y 0).val, hy0⟩ ⟨(y 1).val, hy1⟩ : S512x1024.Idx) := by
    funext a; match a with | ⟨0, _⟩ => rfl | ⟨1, _⟩ => rfl
  have eg : ((cfg0.win 14).blk t).view.emb y = (ix2 ⟨t.val * 512 + (y 0).val, by omega⟩ ⟨(y 1).val, hy1⟩ : S32768x1024.Idx) := by
    funext a; apply Fin.ext
    match a with
    | ⟨0, _⟩ => show win0_14.index t 0 * 512 + 1 * (y 0).val = t.val * 512 + (y 0).val; rw [h14]; simp
    | ⟨1, _⟩ => show win0_14.index t 1 * 1024 + 1 * (y 1).val = (y 1).val; rw [h14']; simp
  rw [ey, eg]
  refine (body_apply _ _ _ _ _ _ _ _ _ _ _ _ _ _ _ _ _).trans ?_
  have hp : ∀ r k : Fin 512, tile (piece (grid0.coords t) (iblk m c 4 t) (iblk m c 3 t) (iblk m c 6 t) (iblk m c 7 t)) (ix2 r k)
      = pooled (m ((c : Thread nD τ).loc main_arg3)) (m ((c : Thread nD τ).loc main_arg5)) (t.val * 512 + r.val) k.val := by
    intro r k
    rw [← et, ← V_v0 m c, ← blk7 m c t]
    refine tile_pooled _ _ _ _ _ _ (fun q k => blk3 m c t q k _ (by show (grid0.coords t 0).val * 512 + q.val = _; rw [et])) ?_ ?_ r k
    · intro h8 q k
      rw [et] at h8
      refine blk4 m c t q k _ ?_
      show (grid0.coords t 0).val * 512 - 128 + q.val = _
      rw [et]
      omega
    · intro g r s
      rw [blk6]
      exact V_band m c g r s
  simp only [hp]
  rw [blk9, blk10, blk11, blk12, blk13, blk8]
  show _ = mixed _ _ _ _ _ _ _ _ _ _ _ _ _ _
  unfold mixed
  have b0 := fun k => blk0 m c t ⟨(y 0).val, hy0⟩ k ⟨t.val * 512 + (y 0).val, by omega⟩ rfl
  have b1 := fun k => blk1 m c t ⟨(y 0).val, hy0⟩ k ⟨t.val * 512 + (y 0).val, by omega⟩ rfl
  have b2 := fun k => blk2 m c t ⟨(y 0).val, hy0⟩ k ⟨t.val * 512 + (y 0).val, by omega⟩ rfl
  have b5 := fun k => blk5 m c t ⟨(y 0).val, hy0⟩ k ⟨t.val * 512 + (y 0).val, by omega⟩ rfl
  simp only [b0, b1, b2, b5]
  exact mixer_congr (branches_congr (funext fun j => congrArg (pooled (m ((c : Thread nD τ).loc main_arg3)) (m ((c : Thread nD τ).loc main_arg5)) (t.val * 512 + (y 0).val) j.val * ·) (V_v5 m c j))
      (funext fun j => funext fun k => congrFun (V_v1 m c) (ix2 j k)) (funext fun j => funext fun k => congrFun (V_v2 m c) (ix2 j k))
      (funext fun j => funext fun k => congrFun (V_v3 m c) (ix2 j k)))
    (funext fun k => funext fun l => congrFun (V_v4 m c) (ix2 k l)) (funext fun k => V_v6 m c k)

/-- Membership in a row block, by coordinates. -/
theorem mem_blk (t : Fin cfg0.N) (i : S32768x1024.Idx) :
    i ∈ ((cfg0.win 14).blk t).view.set ↔ ∀ a : Fin 2, win0_14.index t a * S512x1024.size a ≤ (i a).val ∧ (i a).val < win0_14.index t a * S512x1024.size a + S512x1024.size a := by
  show i ∈ ((View.whole main_v7).slice (win0_14.rect t)).set ↔ _
  rw [View.set_slice_whole, Rect.mem_set_unit]
  exact Iff.rfl

/-- The row blocks tile the result. -/
theorem cover (i : S32768x1024.Idx) : ∃ t : Fin cfg0.N, (cfg0.win 14).flush t = true ∧ i ∈ ((cfg0.win 14).blk t).view.set := by
  have h0 : (i 0).val < 32768 := (i 0).isLt
  have h1 : (i 1).val < 1024 := (i 1).isLt
  have hN : cfg0.N = 64 := N_0
  refine ⟨⟨(i 0).val / 512, by omega⟩, flush0_14 _, ?_⟩
  obtain ⟨-, -, -, -, -, -, e, -⟩ := index_facts ⟨(i 0).val / 512, by omega⟩
  have e2 := congrFun e 0
  have e3 := congrFun e 1
  simp at e2 e3
  rw [mem_blk]
  intro a
  match a with
  | ⟨0, _⟩ => show win0_14.index _ 0 * 512 ≤ (i 0).val ∧ (i 0).val < win0_14.index _ 0 * 512 + 512; rw [e2]; omega
  | ⟨1, _⟩ => show win0_14.index _ 1 * 1024 ≤ (i 1).val ∧ (i 1).val < win0_14.index _ 1 * 1024 + 1024; rw [e3]; omega

/-- The result array after the run is the sublayer, entry by entry. -/
theorem final (c : Dev nD) : (dats m 0 c).arrAt 14 cfg0.N = out m c :=
  (dats m 0 c).arrAt_eq_of_cover 14 (out m c) (fun t _ => flushed_eq m c t) cover

end Cert.Kernel4Ideal.Mix
-- ==== Proof.MixRef.lean ====
/-
  The reference's token mixing at an entry, and the claim that the kernel's result is the reference's.
-/
module

public import proofs.«01_k».proof.Defs
public import proofs.«01_k».proof.Proof.MixMeans
public import proofs.«01_k».proof.Proof.MixKernel
public import proofs.«01_k».proof.Proof.Gen.Pre_finite4
public import proofs.«01_k».proof.Proof.Gen.Reference4Ideal.Run

@[expose] public section

noncomputable section

open Idealize.ShloMosaic Idealize.ShloMosaic.TcCoe
open scoped BigOperators

namespace Cert.Reference4Ideal.Mix

open Cert.Reference4Ideal Cert.Layer Cert.Reference4Ideal.Read

/-- The four groups beside each other: each column less its trailing mean. -/
theorem v72_apply (x3 : FVec Ideal S32768x512 .bf16) (hx : ∀ i, ∃ r : ℝ, (x3 i : EReal) = r) (b : Fin 8) (p : Fin 4096) (g : Fin 4) (c : Fin 128) :
    val_main_v72 (F := Ideal) x3 (ix4 b p g c) = meanLess (seq x3 b.val (128 * g.val + c.val)) (2 ^ (g.val + 1)) p.val := by
  have e0 := v19_apply x3 hx b p c
  have e1 := v35_apply x3 hx b p c
  have e2 := v51_apply x3 hx b p c
  have e3 := v67_apply x3 hx b p c
  unfold val_main_v72 val_main_v68 val_main_v69 val_main_v70 val_main_v71
  generalize val_main_v19 (F := Ideal) x3 = z0 at e0
  generalize val_main_v35 (F := Ideal) x3 = z1 at e1
  generalize val_main_v51 (F := Ideal) x3 = z2 at e2
  generalize val_main_v67 (F := Ideal) x3 = z3 at e3
  match g with
  | ⟨0, _⟩ => pointwise; exact e0
  | ⟨1, _⟩ => pointwise; exact e1
  | ⟨2, _⟩ => pointwise; exact e2
  | ⟨3, _⟩ => pointwise; exact e3

/-- The pooled array at an entry. -/
theorem v75_apply (x3 : FVec Ideal S32768x512 .bf16) (x5 : FVec Ideal S4x128x128 .f32) (hx : ∀ i, ∃ r : ℝ, (x3 i : EReal) = r) (R : Fin 32768) (k : Fin 512) :
    val_main_v75 (F := Ideal) x3 x5 (ix2 R k) = pooled x3 x5 R.val k.val := by
  have hR := R.isLt
  have hk := k.isLt
  rw [val_main_v75_apply, val_main_v74_apply, val_main_v73_apply]
  unfold pooled
  refine Finset.sum_congr rfl fun c _ => ?_
  rw [mul_comm]
  have e1 : (R.val * 512 + k.val) / 2097152 = R.val / 4096 := by omega
  have e2 : (R.val * 512 + k.val) / 512 % 4096 = R.val % 4096 := by omega
  have e3 : (R.val * 512 + k.val) / 128 % 4 = k.val / 128 := by omega
  have e4 : (R.val * 512 + k.val) % 128 = k.val % 128 := by omega
  refine congrArg₂ (· * ·) ?_ (congrArg x5 (funext fun a => Fin.ext ?_))
  · have h := v72_apply x3 hx ⟨R.val / 4096, by omega⟩ ⟨R.val % 4096, by omega⟩ ⟨k.val / 128, by omega⟩ c
    refine Eq.trans (congrArg (val_main_v72 (F := Ideal) x3) (funext fun a => Fin.ext ?_)) h
    match a with
    | ⟨0, _⟩ => exact e1
    | ⟨1, _⟩ => exact e2
    | ⟨2, _⟩ => exact e3
    | ⟨3, _⟩ => rfl
  · match a with
    | ⟨0, _⟩ => show (R.val * 512 + k.val) / 128 % 4 = k.val / 128 % 4; omega
    | ⟨1, _⟩ => rfl
    | ⟨2, _⟩ => exact e4

/-- The reference's gated branches at an entry. -/
theorem v102_apply (x1 x2 x3 : FVec Ideal S32768x512 .bf16) (x4 : FVec Ideal S32768x3072 .bf16) (x5 : FVec Ideal S4x128x128 .f32) (x6 : FVec Ideal S512 .f32)
    (x7 x8 x9 : FVec Ideal S512x1024 .f32) (hx : ∀ i, ∃ r : ℝ, (x3 i : EReal) = r) (R : Fin 32768) (k : Fin 1024) :
    val_main_v102 (F := Ideal) x1 x2 x3 x4 x5 x6 x7 x8 x9 (ix2 R k)
      = branches (fun k => x4 (ix2 R ⟨k.val, by omega⟩)) (fun k => x4 (ix2 R ⟨1024 + k.val, by omega⟩)) (fun k => x4 (ix2 R ⟨2048 + k.val, by omega⟩))
          (fun j => x1 (ix2 R j)) (fun j => pooled x3 x5 R.val j.val * x6 (ix1 j)) (fun j => x2 (ix2 R j))
          (fun j k => x7 (ix2 j k)) (fun j k => x8 (ix2 j k)) (fun j k => x9 (ix2 j k)) k := by
  have h := v75_apply x3 x5 hx R
  unfold val_main_v102 val_main_v98 val_main_v97 val_main_v81 val_main_v78
  generalize val_main_v75 (F := Ideal) x3 x5 = z at h
  pointwise [val_main_v101, val_main_v100, val_main_v99, val_main_v96, val_main_v95, val_main_v94, val_main_v93, val_main_v92, val_main_v91, val_main_v90,
    val_main_v89, val_main_v88, val_main_v87, val_main_v86, val_main_v85, val_main_v84, val_main_v83, val_main_v82, val_main_v80, val_main_v79, val_main_v77, val_main_v76,
    val_main_cst, val_main_cst_11]
  simp only [h]
  rfl

/-- The reference's result at an entry. -/
theorem v117_apply (x0 : FVec Ideal S32768x1024 .f32) (x1 x2 x3 : FVec Ideal S32768x512 .bf16) (x4 : FVec Ideal S32768x3072 .bf16) (x5 : FVec Ideal S4x128x128 .f32)
    (x6 : FVec Ideal S512 .f32) (x7 x8 x9 : FVec Ideal S512x1024 .f32) (x10 : FVec Ideal S1024x1024 .f32) (x11 : FVec Ideal S1024 .f32)
    (hx : ∀ i, ∃ r : ℝ, (x3 i : EReal) = r) (R : Fin 32768) (l : Fin 1024) :
    val_main_v117 (F := Ideal) x0 x1 x2 x3 x4 x5 x6 x7 x8 x9 x10 x11 (ix2 R l) = mixed x0 x1 x2 x3 x4 x5 x6 x7 x8 x9 x10 x11 R l := by
  have h := v102_apply x1 x2 x3 x4 x5 x6 x7 x8 x9 hx R
  unfold val_main_v117 val_main_v116 val_main_v113 val_main_v112 val_main_v111 val_main_v110 val_main_v108 val_main_v106 val_main_v105 val_main_v104 val_main_v103
  generalize val_main_v102 (F := Ideal) x1 x2 x3 x4 x5 x6 x7 x8 x9 = z at h
  pointwise [val_main_v115, val_main_v114, val_main_v109, val_main_v107, val_main_cst_12, val_main_cst_13, val_main_cst_14]
  simp only [h]
  rfl

end Cert.Reference4Ideal.Mix

namespace Cert.Mix

open Idealize.SL.Sem

/-- An entry whose magnitude compares less than infinity is a real. -/
theorem real_of_olt (x : EReal) (h : Ideal.cmp .olt (max x (-x)) (Ideal.ofBits .f32 0x7F800000#32) = 1#1) : ∃ r : ℝ, x = r := by
  have htop : Ideal.ofBits .f32 0x7F800000#32 = ⊤ := by simp [Ideal.ofBits, Ideal.ieee]
  rw [htop] at h
  induction x with
  | bot => simp [Ideal.cmp] at h
  | coe r => exact ⟨r, rfl⟩
  | top => simp [Ideal.cmp] at h

/-- The precondition says that every pooled activation is a real. -/
theorem real_of_pre (m : (ℓ : Loc Cert.Kernel4Ideal.nD Cert.Kernel4Ideal.τ Cert.Kernel4Ideal.sig) → Buf (Elt Ideal) ℓ) (h : Cert.Pre_Kernel4Ideal_finite4 m)
    (c : Dev Cert.Kernel4Ideal.nD) (i : Cert.Kernel4Ideal.S32768x512.Idx) :
    ∃ r : ℝ, (show EReal from m ((c.tc : Thread Cert.Kernel4Ideal.nD Cert.Kernel4Ideal.τ).loc Cert.Kernel4Ideal.main_arg3) i) = r := by
  have h1 := congrFun (h c) i
  unfold Cert.Pre_finite4.fn at h1
  exact real_of_olt _ h1

/-- On agreeing arguments, the pooled activations being reals, the kernel's result and the reference's are the same array. -/
theorem algebraic : Cert.algebraic_Kernel4Ideal_Reference4Ideal_pre_finite4 := by
  intro m ρ m' ρ' hpre hag
  refine ⟨fun c => Cert.Kernel4Ideal.Mix.out m c,
    (θ_run Cert.Kernel4Ideal.defs _ _).mono (fun r h c => ?_) (Cert.Kernel4Ideal.Value.run_blocks m ρ),
    (θ_run Cert.Reference4Ideal.defs _ _).mono (fun r h c => ?_) (Cert.Reference4Ideal.Value.run (F := Ideal) m' ρ')⟩
  · exact ⟨(h c).1.trans (Cert.Kernel4Ideal.Mix.final m c), (h c).2⟩
  · refine ⟨(h c).1.trans ?_, (h c).2⟩
    obtain ⟨h0, h1, h2, h3, h4, h5, h6, h7, h8, h9, h10, h11⟩ := hag c
    rw [Cert.Reference4Ideal.Read.val_main_v117_eq, h0, h1, h2, h3, h4, h5, h6, h7, h8, h9, h10, h11]
    funext i
    exact (congrArg _ (ValueIdx.eq_ix2 i)).trans (Cert.Reference4Ideal.Mix.v117_apply _ _ _ _ _ _ _ _ _ _ _ _ (real_of_pre m hpre c) (i 0) (i 1))

end Cert.Mix
-- ==== Proof.lean ====
/-
  The claims, put together: the feed-forward sublayer (Proof.Ffn), the input projection (Proof.Inproj) and the token mixing
  (Proof.MixRef) each compute, on the extended reals, what their reference computes; every program runs to a quiescent end from
  every memory.
-/
module

public import proofs.«01_k».proof.Defs
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_finite4
public import proofs.«01_k».proof.Proof.Ffn
public import proofs.«01_k».proof.Proof.Inproj
public import proofs.«01_k».proof.Proof.MixRef
public import Idealize.ShloMosaic.Lib.Quiescent

@[expose] public section

noncomputable section

namespace Cert.Proof

open Idealize.ShloMosaic Idealize.SL.Sem

/-- The feed-forward reference runs, leaves its arguments as they were, and every semaphore counter at zero. -/
theorem frame_Reference2Ideal : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The same of the input projection's reference. -/
theorem frame_Reference3Ideal : Cert.quiescent_Reference3Ideal := fun m ρ _ =>
  (θ_run Cert.Reference3Ideal.defs _ _).mono
    (fun r h => ⟨fun c => (h c).2.2.2.2.2.2.2.2.2, Idealize.ShloMosaic.sem_eq_zero_of_no_sems (by decide) r.2⟩)
    (Cert.Reference3Ideal.Value.run (F := Ideal) m ρ)

/-- The same of the token mixing's reference. -/
theorem frame_Reference4Ideal : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- Every claim of the certificate. -/
theorem claim : Cert.Claim :=
  ⟨Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_finite4.Gen.facts,
    fun m ρ _ => Cert.Kernel2.Gen.frame m ρ, fun m ρ _ => Cert.Kernel2Ideal.Gen.frame m ρ, frame_Reference2Ideal,
    fun m ρ _ => Cert.Kernel3.Gen.frame m ρ, fun m ρ _ => Cert.Kernel3Ideal.Gen.frame m ρ, frame_Reference3Ideal,
    fun m ρ _ => Cert.Kernel4.Gen.frame m ρ, fun m ρ _ => Cert.Kernel4Ideal.Gen.frame m ρ, fun m ρ _ => Cert.Kernel4Ideal.Gen.frame m ρ,
    frame_Reference4Ideal, fun m ρ _ => frame_Reference4Ideal m ρ trivial,
    trivial, Cert.Ffn.algebraic, trivial, Cert.Inproj.algebraic, trivial, Cert.Mix.algebraic⟩

end Cert.Proof

end
